-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1024x200 : Shape := ⟨2, ![1024, 200]⟩
abbrev S100000x128 : Shape := ⟨2, ![100000, 128]⟩
abbrev S200x128 : Shape := ⟨2, ![200, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) (main_arg2 : FVec F S200x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x128 : Shape := ⟨2, ![100000, 128]⟩
abbrev S200x128 : Shape := ⟨2, ![200, 128]⟩
abbrev S1024x2x100 : Shape := ⟨3, ![1024, 2, 100]⟩
abbrev S1024x200x128 : Shape := ⟨3, ![1024, 200, 128]⟩
abbrev S2x100 : Shape := ⟨2, ![2, 100]⟩
abbrev S_ : Shape := ⟨0, ![]⟩
abbrev S1x2x100 : Shape := ⟨3, ![1, 2, 100]⟩
abbrev S100x128 : Shape := ⟨2, ![100, 128]⟩
abbrev S1x100 : Shape := ⟨2, ![1, 100]⟩
abbrev S100 : Shape := ⟨1, ![100]⟩
abbrev S1x16 : Shape := ⟨2, ![1, 16]⟩
abbrev S16 : Shape := ⟨1, ![16]⟩
abbrev S1x200x128 : Shape := ⟨3, ![1, 200, 128]⟩

abbrev nBuf : Table → Nat
  | .hbm => 5
  | .local .scVector .vmem => 3
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S200x128, .f32⟩
  | .hbm, ⟨3, _⟩ => ⟨S1024x2x100, .i32⟩
  | .hbm, ⟨4, _⟩ => ⟨S1024x200x128, .f32⟩
  | .local .scVector .vmem, ⟨0, _⟩ => ⟨S2x100, .i32⟩
  | .local .scVector .vmem, ⟨1, _⟩ => ⟨S200x128, .f32⟩
  | .local .scVector .vmem, ⟨2, _⟩ => ⟨S200x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg10 : BitVec 32 := Scf.iv c0_i32_0 c1_i32 k0_t1
  let v4 : BitVec 32 := Scalar.addi v3 arg10
  let c0_i32_30_r1 : BitVec 32 := 0#32
  let c0_i32_31_r1 : BitVec 32 := 0#32
  ![v4.toNat, 0, 0]
@[reducible] def k0_t2_loop : Scf.Loop 32 :=
  let c0_i32_27 : BitVec 32 := 0#32
  let c200_i32 : BitVec 32 := 200#32
  let v21 : BitVec 32 := Scalar.addi c0_i32_27 c200_i32
  let c1_i32_28 : BitVec 32 := 1#32
  ⟨c0_i32_27, v21, c1_i32_28⟩
def k0_off2 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v22 : Index := Scalar.indexCast arg11
  let c0 : Index := 0#32
  ![v22.toNat, 0]
def k0_off3 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v33 : Index := Scalar.indexCast arg11
  let c16 : Index := 16#32
  ![v33.toNat, 16]
def k0_off4 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v44 : Index := Scalar.indexCast arg11
  let c32 : Index := 32#32
  ![v44.toNat, 32]
def k0_off5 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v55 : Index := Scalar.indexCast arg11
  let c48 : Index := 48#32
  ![v55.toNat, 48]
def k0_off6 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v66 : Index := Scalar.indexCast arg11
  let c64 : Index := 64#32
  ![v66.toNat, 64]
def k0_off7 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v77 : Index := Scalar.indexCast arg11
  let c80 : Index := 80#32
  ![v77.toNat, 80]
def k0_off8 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v88 : Index := Scalar.indexCast arg11
  let c96 : Index := 96#32
  ![v88.toNat, 96]
def k0_off9 (k0_t2 : Fin k0_t2_loop.trips) : Fin 2 → Nat :=
  let c0_i32_27 : BitVec 32 := 0#32
  let c1_i32_28 : BitVec 32 := 1#32
  let arg11 : BitVec 32 := Scf.iv c0_i32_27 c1_i32_28 k0_t2
  let v99 : Index := Scalar.indexCast arg11
  let c112 : Index := 112#32
  ![v99.toNat, 112]
def k0_off10 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg10 : BitVec 32 := Scf.iv c0_i32_0 c1_i32 k0_t1
  let v4 : BitVec 32 := Scalar.addi v3 arg10
  let c0_i32_30_r2 : BitVec 32 := 0#32
  let c0_i32_31_r2 : BitVec 32 := 0#32
  ![v4.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S200x128 : Shape := ⟨2, ![200, 128]⟩
abbrev S200 : Shape := ⟨1, ![200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200x1 : Shape := ⟨2, ![200, 1]⟩
abbrev S1x1 : Shape := ⟨2, ![1, 1]⟩
abbrev S1x200x128 : Shape := ⟨3, ![1, 200, 128]⟩

abbrev nBuf : Space → Nat
  | .hbm => 53
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S200x128, .f32⟩
  | .hbm, ⟨3, _⟩ => ⟨S200, .i32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .i32⟩
  | .hbm, ⟨8, _⟩ => ⟨S1024x200, .i32⟩
  | .hbm, ⟨9, _⟩ => ⟨S1024x200, .i32⟩
  | .hbm, ⟨10, _⟩ => ⟨S1024x200, .i32⟩
  | .hbm, ⟨11, _⟩ => ⟨S1024x200x1, .i32⟩
  | .hbm, ⟨12, _⟩ => ⟨S1, .i32⟩
  | .hbm, ⟨13, _⟩ => ⟨S_, .i32⟩
  | .hbm, ⟨14, _⟩ => ⟨S1024x200x1, .i32⟩
  | .hbm, ⟨15, _⟩ => ⟨S1024x200x1, .i1⟩
  | .hbm, ⟨16, _⟩ => ⟨S1x1x1, .i32⟩
  | .hbm, ⟨17, _⟩ => ⟨S1024x200x1, .i32⟩
  | .hbm, ⟨18, _⟩ => ⟨S1024x200x1, .i1⟩
  | .hbm, ⟨19, _⟩ => ⟨S1024x200x1, .i1⟩
  | .hbm, ⟨20, _⟩ => ⟨S_, .i1⟩
  | .hbm, ⟨21, _⟩ => ⟨S1024x200, .i1⟩
  | .hbm, ⟨22, _⟩ => ⟨S1024x200x128, .f32⟩
  | .hbm, ⟨23, _⟩ => ⟨S1024x200x128, .i1⟩
  | .hbm, ⟨24, _⟩ => ⟨S_, .f32⟩
  | .hbm, ⟨25, _⟩ => ⟨S1024x200x128, .f32⟩
  | .hbm, ⟨26, _⟩ => ⟨S1024x200x128, .f32⟩
  | .hbm, ⟨27, _⟩ => ⟨S_, .i32⟩
  | .hbm, ⟨28, _⟩ => ⟨S200, .i32⟩
  | .hbm, ⟨29, _⟩ => ⟨S200, .i1⟩
  | .hbm, ⟨30, _⟩ => ⟨S_, .i32⟩
  | .hbm, ⟨31, _⟩ => ⟨S200, .i32⟩
  | .hbm, ⟨32, _⟩ => ⟨S200, .i32⟩
  | .hbm, ⟨33, _⟩ => ⟨S200, .i32⟩
  | .hbm, ⟨34, _⟩ => ⟨S200x1, .i32⟩
  | .hbm, ⟨35, _⟩ => ⟨S1, .i32⟩
  | .hbm, ⟨36, _⟩ => ⟨S_, .i32⟩
  | .hbm, ⟨37, _⟩ => ⟨S200x1, .i32⟩
  | .hbm, ⟨38, _⟩ => ⟨S200x1, .i1⟩
  | .hbm, ⟨39, _⟩ => ⟨S1x1, .i32⟩
  | .hbm, ⟨40, _⟩ => ⟨S200x1, .i32⟩
  | .hbm, ⟨41, _⟩ => ⟨S200x1, .i1⟩
  | .hbm, ⟨42, _⟩ => ⟨S200x1, .i1⟩
  | .hbm, ⟨43, _⟩ => ⟨S_, .i1⟩
  | .hbm, ⟨44, _⟩ => ⟨S200, .i1⟩
  | .hbm, ⟨45, _⟩ => ⟨S200x128, .f32⟩
  | .hbm, ⟨46, _⟩ => ⟨S200x128, .i1⟩
  | .hbm, ⟨47, _⟩ => ⟨S_, .f32⟩
  | .hbm, ⟨48, _⟩ => ⟨S200x128, .f32⟩
  | .hbm, ⟨49, _⟩ => ⟨S200x128, .f32⟩
  | .hbm, ⟨50, _⟩ => ⟨S1x200x128, .f32⟩
  | .hbm, ⟨51, _⟩ => ⟨S1024x200x128, .f32⟩
  | .hbm, ⟨52, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩

abbrev nD : Nat := 1
abbrev τ : Topo := Topo.v7x

variable {F : FTy → Type} [FloatOps F]
-- ==== Proof.GatherBatch.lean ====
/-
  Several indirect gathers outstanding on one DMA semaphore.

  A tile may issue a second indirect gather on a semaphore before it has waited for the first. The units the two credit
  are then indistinguishable, so a wait sized to one of them says nothing about either: only when the waits together have
  consumed every unit issued are all rows known to have landed. This module treats every gathered row as one member of
  a batch on the semaphore: a gather of `o` rows issues the `o` members that follow those already issued, and the batch
  hands every member's delivery back when all of its units are consumed.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

/-! ## One gather as members of a batch -/

section Gather

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The members from position `j` on are the `o` members at `j, …, j + o - 1` and those from `j + o` on. -/
theorem members_from {n : ℕ} (Φ : Fin n → sProp 𝕄) : ∀ (o j j' : ℕ) (h : j + o = j') (h' : j' ≤ n),
    bigSep (Transfers.pending j) Φ
      = iprop(bigSep Finset.univ (fun k : Fin o => Φ ⟨j + k.val, by omega⟩) ∗ bigSep (Transfers.pending j') Φ) := by
  intro o
  induction o with
  | zero =>
    intro j j' h h'
    obtain rfl : j = j' := h
    rw [Finset.univ_eq_empty, BI.bigSep_empty]
    refine BI.Entails.antisymm (show (_ : sProp 𝕄) ⊢ _ from ?_) (show (_ : sProp 𝕄) ⊢ _ from ?_)
    · iintro H; isplitr; · iempintro
      iexact H
    · iintro ⟨-, H⟩; iexact H
  | succ o ih =>
    intro j j' h h'
    have hj : j < n := by omega
    rw [Transfers.pending_succ hj, BI.bigSep_insert (Transfers.not_mem_pending_succ hj), ih (j + 1) j' (by omega) h']
    have e' : (fun k : Fin o => Φ ⟨j + 1 + k.val, by omega⟩) = fun k : Fin o => Φ ⟨j + k.succ.val, by rw [Fin.val_succ]; omega⟩ := by
      funext k; congr 2; rw [Fin.val_succ]; omega
    have e'' := bigSep_univ_succ (Ix := Ix) (Name := Name) (U := U) (Lvl := Lvl) (Val := Elt F) (sig := sig) (nD := nD) (τ := τ)
      (fun k : Fin (o + 1) => Φ ⟨j + k.val, by omega⟩)
    rw [e', e'']
    exact BI.Entails.antisymm (sep_assoc (PROP := sProp 𝕄)).2 (sep_assoc (PROP := sProp 𝕄)).1

/-- The row of the source that row `k` of a gather is written with. -/
def rowVal (src : Memref sig c.2.kind sp s₀ e) (hg : s₀.Gathers a s) (fs : Buf (Elt F) (src.view.loc c))
    (r : Fin (s.size hg.axis') → Fin (s₀.size hg.axis)) (k : Fin (s.size hg.axis')) : (s.rowShape hg.axis').Idx → Elt F e :=
  fun i => src.view.read (Elt F) fs (hg.rowIdx (r k) i)

/-- What row `k` of a gather delivers once it has landed: row `k` of the destination written with the source's row
    `r k`, the share of the list's entry that named it, and the piece of the source's share it read through. -/
def rowDeliv (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) : sProp 𝕄 :=
  iprop((dst.view.loc c ↦[(dst.view.slice (s.rowRect hg.axis' k)).set]{fullShare}
            ((dst.view.slice (s.rowRect hg.axis' k)).write (Elt F) fd (rowVal c src hg fs r k) Finset.univ))
    ∗ (offs.view.loc c ↦[{offs.view.emb (si.rowMajor.symm (k.cast hn.symm))}]{qo} fo)
    ∗ (src.view.loc c ↦[src.view.set]{pieceOf q _ ho k} fs))

instance rowDeliv_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) :
    Storable (upEmb : UEmb _ 𝕄) (rowDeliv c src dst hg offs hn ho q qo fs fd fo r k) := by
  unfold rowDeliv; infer_instance

/-- All rows of a gather delivered are the destination written with the gather's payload, the source's share whole and
    the list's share whole. -/
theorem rowDeliv_join {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    (r : Fin (s.size hg.axis') → Fin (s₀.size hg.axis)) :
    bigSep Finset.univ (rowDeliv (Ix := Ix) (Name := Name) (U := U) (Lvl := Lvl) c src dst hg offs hn ho q qo fs fd fo r)
      ⊢ iprop((dst.view.loc c ↦[dst.view.set]{fullShare}
                (dst.view.write (Elt F) fd (gatherPayload hg (src.view.read (Elt F) fs) r) Finset.univ))
          ∗ (offs.view.loc c ↦[offs.view.set]{qo} fo) ∗ (src.view.loc c ↦[src.view.set]{q} fs)) := by
  have hbij : Function.Bijective fun k : Fin (s.size hg.axis') => si.rowMajor.symm (k.cast hn.symm) :=
    si.rowMajor.symm.bijective.comp (finCongr hn.symm).bijective
  unfold rowDeliv
  iintro H
  ihave H1 := Transfers.bigSep_sep_out _ _ _ $$ H
  icases H1 with ⟨Hrows, H2⟩
  ihave H3 := Transfers.bigSep_sep_out _ _ _ $$ H2
  icases H3 with ⟨Hents, Hps⟩
  isplitl [Hrows]
  · iapply (pointsTo_rows_write c dst.view hg.axis' fd (rowVal c src hg fs r)
      (gatherPayload hg (src.view.read (Elt F) fs) r)
      (fun k i => by unfold gatherPayload rowVal; rw [Shape.Gathers.idx_rowRect_emb])) $$ Hrows
  isplitl [Hents]
  · iapply (Entails.of_eq (pointsTo_entries c offs.view _ hbij qo fo).symm) $$ Hents
  · iapply (Entails.of_eq (pointsTo_piecesOf src.view.set fs ho q).symm) $$ Hps

/-- An indirect gather issued as the next members of a batch: holding a share of the source, the destination outright, a
    share of the offset list whose words are all in range, and the batch on the gather's semaphore with `j` members
    issued, the tile issues the gather and continues with `j + o` members issued, `o` the gather's rows. Every row must
    credit the batch's `N`, and row `k`'s delivery must be what the batch says of member `j + k`. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} {j u : ℕ} (hj : j + s.size hg.axis' ≤ n) (hu : u ≤ j * N)
    (hD : ∀ i : Fin (s.size hg.axis'),
      rowDeliv c src dst hg offs hn ho q qo fs fd fo (rows (offs.view.read (Elt F) fo) hn hin) i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hagree : S.RowsAgree := by
    intro i x x' ρ ρ' h h'
    obtain ⟨_, _, rfl⟩ := Option.map_eq_some_iff.mp h
    obtain ⟨_, _, rfl⟩ := Option.map_eq_some_iff.mp h'
    rfl
  have hrow : ∀ i, S.row i (S.word fo i) = some (rd i) := fun i => by
    change (rowOf (s₀.size hg.axis) (offs.view.read (Elt F) fo (S.entry i))).map _ = _
    rw [rowOf_of_lt (hin _)]; rfl
  have hbij : Function.Bijective S.entry := si.rowMajor.symm.bijective.comp (finCongr hn.symm).bijective
  have hsum : ∑ i, (rd i).dst.view.dmaCredit = s.size hg.axis' * N := sum_rowCredit_eq _ hN rfl
  unfold Transfers.Batch
  iintro ⟨Hs, Hd, Ho, %γ, %γ₀, %κ, #Hinv, Hpend, H0, Hcred⟩ Hk
  ihave Hpend' := (Entails.of_eq (members_from _ (s.size hg.axis') j _ rfl hj)) $$ Hpend
  icases Hpend' with ⟨Hmine, Hlater⟩
  ihave Hd' := (Entails.of_eq (pointsTo_rows c dst.view hg.axis' fullShare fd)) $$ Hd
  ihave Ho' := (Entails.of_eq (pointsTo_entries c offs.view S.entry hbij qo fo)) $$ Ho
  ihave Hs' := (Entails.of_eq (pointsTo_piecesOf src.view.set fs ho q)) $$ Hs
  iapply (wp_enqueueIndirectDma 𝒱 c bd Set.univ (qo := qo) (fo := fo) (rd := rd) ι (s.size hg.axis' * N) hagree hrow hsum) $$ [Hd' Ho' Hs' Hmine]
  · have hent : ∀ i : Fin (s.size hg.axis'), iprop(inv κ (Transfers.batchBody EC (c, SemLoc.dma sem) N D γ γ₀)
          ∗ ((dst.view.loc c ↦[(dst.view.slice (s.rowRect hg.axis' i)).set]{fullShare} fd)
          ∗ S.heldEntry qo fo i
          ∗ (src.view.loc c ↦[src.view.set]{pieceOf q _ ho i} fs)
          ∗ count EC (γ ⟨j + i.val, by omega⟩) 0))
        ⊢ iprop(S.heldEntry qo fo i ∗ (S.heldEntry qo fo i -∗ rowRes c (rd i))) := fun i => by
      iintro ⟨#Hinv, Hr, He, Hp, Hc⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (rowVal c src hg fs r i) Finset.univ)) ∗ S.heldEntry qo fo i)
      isplitl [Hp]; · iexact Hp
      isplitl [Hr He]
      · iapply writeUpdate_frame
        isplitl [Hr]
        · iapply (pointsTo_writeUpdate c (v := dst.view.slice (s.rowRect hg.axis' i)) subset_rfl) $$ Hr
        · iexact He
      · have hc : (rd i).dst.view.amount (SemLoc.dma sem) = N := hN i
        have hres : iprop(((dst.view.loc c ↦[(dst.view.slice (s.rowRect hg.axis' i)).set]{fullShare}
              ((dst.view.slice (s.rowRect hg.axis' i)).write (Elt F) fd (rowVal c src hg fs r i) Finset.univ)) ∗ S.heldEntry qo fo i)
            ∗ ((rd i).src.view.loc c ↦[(rd i).src.view.set]{pieceOf q _ ho i} fs)) ⊢ D ⟨j + i.val, by omega⟩ := sep_assoc.1.trans (hD i)
        have hcu := Transfers.batch_creditUpdate EC (g := (c, SemLoc.dma sem)) (N := N) (D := D) (γ := γ) (γ₀ := γ₀) (ι := κ) ⟨j + i.val, by omega⟩ hres
        rw [← hc] at hcu
        iapply (show _ ⊢ creditUpdate (c, SemLoc.dma sem) ((rd i).dst.view.amount (SemLoc.dma sem)) 0 _ from hcu)
        isplitr; · rw [hc]; iexact Hinv
        iexact Hc
    unfold Stream.res
    ihave H1 := Transfers.bigSep_sep_in _ _ _ $$ [Hs' Hmine]; · isplitl [Hs'] <;> iassumption
    ihave H2 := Transfers.bigSep_sep_in _ _ _ $$ [Ho' H1]; · isplitl [Ho'] <;> iassumption
    ihave H3 := Transfers.bigSep_sep_in _ _ _ $$ [Hd' H2]; · isplitl [Hd'] <;> iassumption
    iapply (Transfers.bigSep_mono_pers Finset.univ _ _ _ fun i _ => hent i)
    isplitr; · iexact Hinv
    iexact H3
  · iintro Hnew
    iapply Hk
    iexists γ, γ₀, κ
    isplitr; · iexact Hinv
    isplitl [Hlater]; · iexact Hlater
    isplitl [H0]; · iexact H0
    have hsplit : (j + s.size hg.axis') * N - u = (j * N - u) + s.size hg.axis' * N := by rw [Nat.add_mul]; omega
    rw [hsplit, ← tallyAt_add]
    isplitl [Hcred] <;> iassumption

end Gather

end Cert.Proof.GatherBatch
-- ==== Proof.IdealSetup.lean ====
/-
  The launch set-up: the kernel's program as the launch theorem reads it, the arrays and the tile buffers as locations,
  and the values the arrays hold.

  A table of 100000 rows of 128 words, a table of 200 position rows, and 1024 batches of 200 row numbers. Batch `b` of the
  output is, in row `r`, the table's row that the batch names at `r`, plus position row `r`.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The row numbers as the caller gives them, 1024 × 200; -/
abbrev aLoc (d : Dev nD) : Loc nD τ sig := (SparseCore.T d).loc main_arg0
/-- the table; -/
abbrev tLoc (d : Dev nD) : Loc nD τ sig := (SparseCore.T d).loc main_arg1
/-- the position rows; -/
abbrev pLoc (d : Dev nD) : Loc nD τ sig := (SparseCore.T d).loc main_arg2
/-- the row numbers as 1024 batches of two lists of 100; -/
abbrev iLoc (d : Dev nD) : Loc nD τ sig := (SparseCore.T d).loc main_v0
/-- the output. -/
abbrev oLoc (d : Dev nD) : Loc nD τ sig := (SparseCore.T d).loc main_v1

/-! ## What the arrays hold -/

variable (m : (ℓ : Loc nD τ sig) → Buf (Elt F) ℓ)

/-- The row numbers in the kernel's form: the caller's, reshaped. -/
def lists (d : Dev nD) : S1024x2x100.Idx → BitVec 32 :=
  shapeCast S1024x2x100 (show S1024x200.Idx → BitVec 32 from m (aLoc d)) shapeCasts_S1024x200_S1024x2x100

/-- The row of the table a word names. A word past the table names no row; it is read modulo the table's height, which
    changes nothing for the words the precondition admits. -/
def tokRow (w : BitVec 32) : Fin 100000 := ⟨w.toNat % 100000, Nat.mod_lt _ (by decide)⟩

/-- 200 rows of the table: in row `r` the one the two lists name at `r`. -/
def gathered (w : S2x100.Idx → BitVec 32) (t : S100000x128.Idx → Elt F .f32) : S200x128.Idx → Elt F .f32 :=
  fun i => t (ix2 (tokRow (w (ix2 ⟨(i 0).val / 100, by have h : (i 0).val < 200 := (i 0).isLt; show (i 0).val / 100 < 2; omega⟩
    ⟨(i 0).val % 100, Nat.mod_lt _ (by decide)⟩))) (i 1))

/-- Batch `b`'s two lists. -/
def batchLists (w : S1024x2x100.Idx → BitVec 32) (b : Fin 1024) : S2x100.Idx → BitVec 32 := fun j => w (ix3 b (j 0) (j 1))

variable [FloatOps F]

/-- Batch `b` of the output: its gathered rows plus the position rows. -/
def batchOut (d : Dev nD) (b : Fin 1024) : S200x128.Idx → Elt F .f32 :=
  fun i => FloatOps.addf (gathered (batchLists (lists m d) b) (m (tLoc d)) i) (m (pLoc d) i)

/-- The output. -/
def out (d : Dev nD) : Buf (Elt F) (oLoc d) :=
  show S1024x200x128.Idx → Elt F .f32 from fun i => batchOut m d (i 0) (ix2 (i 1) (i 2))

/-- What the proof asks of the launch memory: every row number names a row of the table. -/
def InTable : Prop := ∀ (d : Dev nD) (j : S1024x200.Idx), (m (aLoc d) j : BitVec 32).toNat < 100000

/-- Then so does every word of the batches' lists. -/
theorem lists_lt (h : InTable m) (d : Dev nD) (j : S1024x2x100.Idx) : (lists m d j).toNat < 100000 := h d _

end Cert.Proof.IdealRun

end
-- ==== Proof.IdealRowAdd.lean ====
/-
  One trip of the inner loop: row `k` of the gathered rows has the position row `k` added to it, 16 words at a time.
-/
module

public import proofs.«01_k».proof.Proof.IdealSetup

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

/-- The tile's SparseCore and subcore. -/
abbrev cV (L : grid0.Coords) : Fin τ.nSC := (L 0).castLE hcore0
abbrev jV (L : grid0.Coords) : Fin τ.nSub := (L 1).castLE hsub0

/-- The rows after `k` trips: the first `k` with their position rows added. -/
def mixed (k : ℕ) (g p : S200x128.Idx → Elt F .f32) : S200x128.Idx → Elt F .f32 :=
  fun i => if (i 0).val < k then FloatOps.addf (g i) (p i) else g i

/-- Before the first trip no row is changed. -/
theorem mixed_zero (g p : S200x128.Idx → Elt F .f32) : mixed 0 g p = g := by
  funext i; exact if_neg (Nat.not_lt_zero _)

/-- After the last every row is. -/
theorem mixed_all (g p : S200x128.Idx → Elt F .f32) (k : ℕ) (hk : 200 ≤ k) : mixed k g p = fun i => FloatOps.addf (g i) (p i) := by
  funext i; exact if_pos (lt_of_lt_of_le (show (i 0).val < 200 from (i 0).isLt) hk)

/-- What one store of a trip puts down: lane by lane, the sum of what the two loads read. -/
theorem laneSum_apply (a b : Vec F S1x16 .f32) (x : S1x16.Idx) :
    shapeCast S1x16 (addf (shapeCast S16 a shapeCasts_S1x16_S16) (shapeCast S16 b shapeCasts_S1x16_S16)) shapeCasts_S16_S1x16 x
      = FloatOps.addf (a x) (b x) := by
  simp only [shapeCast, addf, Shape.reshapeEquiv_reshapeEquiv, Shape.reshapeEquiv_self]

/-- Sixteen lanes of row `k`, loaded from the rows after `k` trips and from the position rows and added, are those lanes of
    the rows after `k + 1` trips. -/
theorem lanes_eq (k o : ℕ) (off : Fin 2 → ℕ) (hoff : off = ![k, o]) (inb : ∀ a, off a + S1x16.size a ≤ S200x128.size a)
    (g p : S200x128.Idx → Elt F .f32) (x : (Rect.unit (s := S200x128) off S1x16.size inb).shape.Idx) :
    shapeCast S1x16 (addf
        (shapeCast S16 ((rV).view.readAt (Elt F) (Rect.unit (s := S200x128) off S1x16.size inb).toLoadRect (mixed k g p)) shapeCasts_S1x16_S16)
        (shapeCast S16 ((qV).view.readAt (Elt F) (Rect.unit (s := S200x128) off S1x16.size inb).toLoadRect p) shapeCasts_S1x16_S16))
        shapeCasts_S16_S1x16 x
      = mixed (k + 1) g p ((Rect.unit (s := S200x128) off S1x16.size inb).emb x) := by
  subst hoff
  rw [laneSum_apply]
  have h0 : (((Rect.unit (s := S200x128) ![k, o] S1x16.size inb).emb x) 0).val = k := by
    have hx : (x 0).val < 1 := (x 0).isLt
    show k + 1 * (x 0).val = k
    omega
  have hr : (rV).view.readAt (Elt F) (Rect.unit (s := S200x128) ![k, o] S1x16.size inb).toLoadRect (mixed k g p) x
      = mixed k g p ((Rect.unit (s := S200x128) ![k, o] S1x16.size inb).emb x) := rfl
  have hq : (qV).view.readAt (Elt F) (Rect.unit (s := S200x128) ![k, o] S1x16.size inb).toLoadRect p x
      = p ((Rect.unit (s := S200x128) ![k, o] S1x16.size inb).emb x) := rfl
  rw [hr, hq]
  unfold mixed
  rw [if_neg (by omega), if_pos (by omega)]

/-- Row `k`'s lanes from `o` on, sixteen of them, hold every place of row `k` whose lane is among them. -/
theorem mem_lanes (k o : ℕ) (off : Fin 2 → ℕ) (hoff : off = ![k, o]) (inb : ∀ a, off a + S1x16.size a ≤ S200x128.size a)
    (y : S200x128.Idx) : y ∈ (Rect.unit (s := S200x128) off S1x16.size inb).set ↔ (y 0).val = k ∧ o ≤ (y 1).val ∧ (y 1).val < o + 16 := by
  subst hoff
  rw [Rect.mem_set_unit]
  constructor
  · intro h
    have h0 : k ≤ (y 0).val ∧ (y 0).val < k + 1 := h 0
    have h1 : o ≤ (y 1).val ∧ (y 1).val < o + 16 := h 1
    omega
  · rintro ⟨h0, h1⟩ a
    match a with
    | 0 => show k ≤ (y 0).val ∧ (y 0).val < k + 1; omega
    | 1 => exact h1

variable (d : Dev nD) (L : grid0.Coords)

set_option maxHeartbeats 4000000 in
/-- Trip `k` takes the rows from `mixed k` to `mixed (k + 1)` and leaves the position rows alone. -/
theorem rowAdd_trip (k : Fin k0_t2_loop.trips) (g p : S200x128.Idx → Elt F .f32) :
    iprop(((rV).view.loc (V d (cV L) (jV L)) ↦{fullShare} (show Buf (Elt F) ((rV).view.loc (V d (cV L) (jV L))) from mixed k.val g p))
        ∗ ((qV).view.loc (V d (cV L) (jV L)) ↦{fullShare} (show Buf (Elt F) ((qV).view.loc (V d (cV L) (jV L))) from p)))
      ⊢ (wp frame (wpE (defs₀ (F := F)) 𝒱₀ (V d (cV L) (jV L)) none) Set.univ
          (k0_t2_body L iV (Memref.isWhole_whole _) tV (Memref.isWhole_whole _) pV (Memref.isWhole_whole _) oV (Memref.isWhole_whole _)
            lV (Memref.isWhole_whole _) rV (Memref.isWhole_whole _) qV (Memref.isWhole_whole _) cc0_scratch3 cc0_scoped0 cc0_scoped1 cc0_scoped2 k ⟨⟩)
          fun _ => iprop(((rV).view.loc (V d (cV L) (jV L)) ↦{fullShare} (show Buf (Elt F) ((rV).view.loc (V d (cV L) (jV L))) from mixed (k.val + 1) g p))
            ∗ ((qV).view.loc (V d (cV L) (jV L)) ↦{fullShare} (show Buf (Elt F) ((qV).view.loc (V d (cV L) (jV L))) from p))) : sProp 𝕄) := by
  unfold k0_t2_body
  simp only [k0_part1_eq_skeleton, k0_part2_eq_skeleton]
  unfold k0_part1_skel k0_part2_skel
  iintro ⟨Hr, Hq⟩
  ihave Hr' := (Entails.of_eq (show ((rV).view.loc (V d (cV L) (jV L)) ↦{fullShare} _ : sProp 𝕄) = (rV).view.loc (V d (cV L) (jV L)) ↦{fullShare} _ from rfl)) $$ Hr
  ihave Hq' := (Entails.of_eq (show ((qV).view.loc (V d (cV L) (jV L)) ↦{fullShare} _ : sProp 𝕄) = (qV).view.loc (V d (cV L) (jV L)) ↦{fullShare} _ from rfl)) $$ Hq
  sl_exec
  sl_step
  isplitl [Hr']
  · refine Entails.of_eq (congrArg _ ?_)
    sl_unfold_run_names
    funext y
    refine (congrFun (View.read_whole (Val := Elt F) cc0_scratch1 _) y).symm.trans ?_
    by_cases hy : (y 0).val = k.val
    · refine View.read_writes_apply_of_pieces _ _ (mixed (k.val + 1) g p) _ ?_ y ?_
      · intro pc hpc
        simp only [List.mem_cons, List.not_mem_nil, or_false] at hpc
        rcases hpc with h | h | h | h | h | h | h | h <;> subst h
        · exact lanes_eq k.val 112 _ (k0_off9_eq k) (k0_off9_inb k) g p
        · exact lanes_eq k.val 96 _ (k0_off8_eq k) (k0_off8_inb k) g p
        · exact lanes_eq k.val 80 _ (k0_off7_eq k) (k0_off7_inb k) g p
        · exact lanes_eq k.val 64 _ (k0_off6_eq k) (k0_off6_inb k) g p
        · exact lanes_eq k.val 48 _ (k0_off5_eq k) (k0_off5_inb k) g p
        · exact lanes_eq k.val 32 _ (k0_off4_eq k) (k0_off4_inb k) g p
        · exact lanes_eq k.val 16 _ (k0_off3_eq k) (k0_off3_inb k) g p
        · exact lanes_eq k.val 0 _ (k0_off2_eq k) (k0_off2_inb k) g p
      · have hl : (y 1).val < 128 := (y 1).isLt
        simp only [List.mem_cons, List.not_mem_nil, or_false, exists_eq_or_imp, exists_eq_left]
        erw [mem_lanes k.val 112 _ (k0_off9_eq k) (k0_off9_inb k), mem_lanes k.val 96 _ (k0_off8_eq k) (k0_off8_inb k),
          mem_lanes k.val 80 _ (k0_off7_eq k) (k0_off7_inb k), mem_lanes k.val 64 _ (k0_off6_eq k) (k0_off6_inb k),
          mem_lanes k.val 48 _ (k0_off5_eq k) (k0_off5_inb k), mem_lanes k.val 32 _ (k0_off4_eq k) (k0_off4_inb k),
          mem_lanes k.val 16 _ (k0_off3_eq k) (k0_off3_inb k), mem_lanes k.val 0 _ (k0_off2_eq k) (k0_off2_inb k)]
        omega
    · rw [View.read_writes_apply_of_forall_not_mem _ _ y _ ?_]
      · show mixed k.val g p y = mixed (k.val + 1) g p y
        unfold mixed
        by_cases hlt : (y 0).val < k.val
        · rw [if_pos hlt, if_pos (by omega)]
        · rw [if_neg hlt, if_neg (by omega)]
      · intro pc hpc
        simp only [List.mem_cons, List.not_mem_nil, or_false] at hpc
        rcases hpc with h | h | h | h | h | h | h | h <;> subst h
        · exact fun hm => hy ((mem_lanes k.val 112 _ (k0_off9_eq k) (k0_off9_inb k) y).1 hm).1
        · exact fun hm => hy ((mem_lanes k.val 96 _ (k0_off8_eq k) (k0_off8_inb k) y).1 hm).1
        · exact fun hm => hy ((mem_lanes k.val 80 _ (k0_off7_eq k) (k0_off7_inb k) y).1 hm).1
        · exact fun hm => hy ((mem_lanes k.val 64 _ (k0_off6_eq k) (k0_off6_inb k) y).1 hm).1
        · exact fun hm => hy ((mem_lanes k.val 48 _ (k0_off5_eq k) (k0_off5_inb k) y).1 hm).1
        · exact fun hm => hy ((mem_lanes k.val 32 _ (k0_off4_eq k) (k0_off4_inb k) y).1 hm).1
        · exact fun hm => hy ((mem_lanes k.val 16 _ (k0_off3_eq k) (k0_off3_inb k) y).1 hm).1
        · exact fun hm => hy ((mem_lanes k.val 0 _ (k0_off2_eq k) (k0_off2_inb k) y).1 hm).1
  · iexact Hq'

end Cert.Proof.IdealRun

end
-- ==== Proof.IdealWindows.lean ====
/-
  The windows of the tile's buffers that the two gathers use: rows 0–99 and 100–199 of the gathered rows, the first and the
  second list of row numbers, and the table seen whole. What a gather of a list through a window leaves there.
-/
module

public import proofs.«01_k».proof.Proof.IdealRowAdd

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

/-! ## The windows -/

/-- 100 rows from row `o` on of the gathered rows. -/
abbrev rWin (o : ℕ) (inb : ∀ a, (![o, 0] : Fin 2 → ℕ) a + S100x128.size a ≤ S200x128.size a) : Memref sig .scVector .vmem S100x128 .f32 :=
  (rV).slice (Rect.unit (s := S200x128) ![o, 0] S100x128.size inb) (fun _ => rfl)
/-- List `h` of the two. -/
abbrev lWin (h : ℕ) (inb : ∀ a, (![h, 0] : Fin 2 → ℕ) a + S1x100.size a ≤ S2x100.size a) : Memref sig .scVector .vmem S100 .i32 :=
  ((lV).slice (Rect.unit (s := S2x100) ![h, 0] S1x100.size inb) (fun _ => rfl)).squeeze S100 squeezes_S1x100_S100
/-- The table as the gathers name it. -/
abbrev tAll : Memref sig .scVector .hbm S100000x128 .f32 :=
  (tV).slice (Rect.unit (s := S100000x128) ![0, 0] S100000x128.size inb_S100000x128_S100000x128_0_0) (fun _ => rfl)

/-- The window from row `o` on holds rows `o` to `o + 99`. -/
theorem mem_rWin (o : ℕ) (inb : ∀ a, (![o, 0] : Fin 2 → ℕ) a + S100x128.size a ≤ S200x128.size a) (y : S200x128.Idx) :
    y ∈ (rWin o inb).view.set ↔ o ≤ (y 0).val ∧ (y 0).val < o + 100 := by
  show y ∈ ((View.whole (cc0_scratch1 : Ref sig .scVector)).slice (Rect.unit (s := S200x128) ![o, 0] S100x128.size inb)).set ↔ _
  erw [View.set_slice_whole, Rect.mem_set_unit]
  have hl : (y 1).val < 128 := (y 1).isLt
  constructor
  · intro h; exact h 0
  · intro h a
    match a with
    | 0 => exact h
    | 1 => show 0 ≤ (y 1).val ∧ (y 1).val < 0 + 128; omega

/-- List `h` is row `h` of the lists' buffer. -/
theorem mem_lWin (h : ℕ) (inb : ∀ a, (![h, 0] : Fin 2 → ℕ) a + S1x100.size a ≤ S2x100.size a) (y : S2x100.Idx) :
    y ∈ (lWin h inb).view.set ↔ (y 0).val = h := by
  show y ∈ (((View.whole (cc0_scratch0 : Ref sig .scVector)).slice (Rect.unit (s := S2x100) ![h, 0] S1x100.size inb)).reshape S100 squeezes_S1x100_S100.numel_eq).set ↔ _
  erw [View.set_reshape, View.set_slice_whole, Rect.mem_set_unit]
  have hl : (y 1).val < 100 := (y 1).isLt
  constructor
  · intro k
    have k0 : h ≤ (y 0).val ∧ (y 0).val < h + 1 := k 0
    omega
  · intro k a
    match a with
    | 0 => show h ≤ (y 0).val ∧ (y 0).val < h + 1; omega
    | 1 => show 0 ≤ (y 1).val ∧ (y 1).val < 0 + 100; omega

/-- The table seen by the gathers is all of it. -/
theorem set_tAll : (tAll).view.set = Finset.univ := by
  show ((View.whole (main_arg1_scv : Ref sig .scVector)).slice (Rect.unit (s := S100000x128) ![0, 0] S100000x128.size inb_S100000x128_S100000x128_0_0)).set = _
  erw [View.set_slice_whole]
  refine Finset.eq_univ_of_forall fun y => Rect.mem_set_unit.mpr fun a => ?_
  have h0 : (y 0).val < 100000 := (y 0).isLt
  have h1 : (y 1).val < 128 := (y 1).isLt
  match a with
  | 0 => show 0 ≤ (y 0).val ∧ (y 0).val < 0 + 100000; omega
  | 1 => show 0 ≤ (y 1).val ∧ (y 1).val < 0 + 128; omega

/-- Entry `x` of list `h` is the buffer's word at row `h`, place `x`. -/
theorem lWin_read (h : ℕ) (inb : ∀ a, (![h, 0] : Fin 2 → ℕ) a + S1x100.size a ≤ S2x100.size a) (hh : h < 2)
    (w : S2x100.Idx → BitVec 32) (x : S100.Idx) :
    (lWin h inb).view.read (Elt F) w x = w (ix2 ⟨h, hh⟩ (x 0)) := by
  have e : Shape.reshapeEquiv squeezes_S1x100_S100.numel_eq x = ix2 (0 : Fin 1) (x 0) := by
    refine Shape.reshapeEquiv_eq_of_rowMajor _ ?_
    refine (Shape.rowMajor_val_two _).trans (Eq.trans ?_ (Shape.rowMajor_val_one _).symm)
    show 0 * 100 + (x 0).val = (x 0).val
    omega
  show w ((Rect.unit (s := S2x100) ![h, 0] S1x100.size inb).emb (Shape.reshapeEquiv squeezes_S1x100_S100.numel_eq x)) = _
  rw [e]
  congr 1
  funext a
  match a with
  | 0 => exact Fin.ext (show h + 1 * 0 = h by omega)
  | 1 => exact Fin.ext (show 0 + 1 * (x 0).val = (x 0).val by omega)

/-- A gather of list `h` into the window of rows from `100 * h` on leaves there the rows the list names. -/
theorem window_value (o h : ℕ) (hh : h < 2) (ho : o = 100 * h)
    (inb : ∀ a, (![o, 0] : Fin 2 → ℕ) a + S100x128.size a ≤ S200x128.size a)
    (inb' : ∀ a, (![h, 0] : Fin 2 → ℕ) a + S1x100.size a ≤ S2x100.size a)
    (w : S2x100.Idx → BitVec 32) (t : S100000x128.Idx → Elt F .f32) (f : S200x128.Idx → Elt F .f32)
    (hin : ∀ x, ((lWin h inb').view.read (Elt F) w x : BitVec 32).toNat < S100000x128.size gathers_S100000x128_S100x128.axis)
    (i : S200x128.Idx) (hi : i ∈ (rWin o inb).view.set) :
    (rWin o inb).view.write (Elt F) f (SparseCore.gatherPayload gathers_S100000x128_S100x128 ((tAll).view.read (Elt F) t)
        (SparseCore.rows ((lWin h inb').view.read (Elt F) w) rfl hin)) Finset.univ i
      = gathered w t i := by
  obtain ⟨x, -, rfl⟩ := Finset.mem_map.mp hi
  refine (View.write_emb_of_mem _ _ (Finset.mem_univ x)).trans ?_
  have hx0 : (x 0).val < 100 := (x 0).isLt
  have e0 : (((rWin o inb).view.emb x) 0).val = o + (x 0).val := by show o + 1 * (x 0).val = _; omega
  have e1 : (((rWin o inb).view.emb x) 1).val = (x 1).val := by show 0 + 1 * (x 1).val = _; omega
  have ek : ∀ k : Fin 100, (S100.rowMajor.symm k) 0 = k := fun k => Fin.ext (by
    rw [← Shape.rowMajor_val_one]; exact congrArg Fin.val (S100.rowMajor.apply_symm_apply k))
  show t ((Rect.unit (s := S100000x128) ![0, 0] S100000x128.size inb_S100000x128_S100000x128_0_0).emb
    (gathers_S100000x128_S100x128.idx (SparseCore.rows ((lWin h inb').view.read (Elt F) w) rfl hin) x)) = _
  unfold gathered
  congr 1
  funext a
  match a with
  | 0 =>
    refine Fin.ext ?_
    have hw : ((lWin h inb').view.read (Elt F) w (S100.rowMajor.symm (x 0)) : BitVec 32).toNat < 100000 := hin _
    show 0 + 1 * (gathers_S100000x128_S100x128.idx (SparseCore.rows ((lWin h inb').view.read (Elt F) w) rfl hin) x gathers_S100000x128_S100x128.axis).val = _
    rw [Shape.Gathers.idx_axis]
    show 0 + 1 * ((lWin h inb').view.read (Elt F) w (S100.rowMajor.symm (x 0)) : BitVec 32).toNat = (w _).toNat % 100000
    have key : (lWin h inb').view.read (Elt F) w (S100.rowMajor.symm (x 0)) = w (ix2 ⟨h, hh⟩ (x 0)) :=
      (lWin_read h inb' hh w _).trans (congrArg (fun z : Fin 100 => w (ix2 ⟨h, hh⟩ z)) (ek (x 0)))
    rw [key] at hw ⊢
    have ew : (ix2 ⟨h, hh⟩ (x 0) : S2x100.Idx) = ix2 ⟨(((rWin o inb).view.emb x) 0).val / 100, by omega⟩ ⟨(((rWin o inb).view.emb x) 0).val % 100, Nat.mod_lt _ (by decide)⟩ := by
      congr 1 <;> refine Fin.ext ?_
      · show h = _ / 100; omega
      · show (x 0).val = _ % 100; omega
    rw [← ew, Nat.mod_eq_of_lt hw]; omega
  | 1 =>
    refine Fin.ext ?_
    show 0 + 1 * (gathers_S100000x128_S100x128.idx (SparseCore.rows ((lWin h inb').view.read (Elt F) w) rfl hin) x 1).val = (((rWin o inb).view.emb x) 1).val
    rw [Shape.Gathers.idx_of_ne _ _ _ _ (by decide), e1]
    show 0 + 1 * (x 1).val = (x 1).val
    omega

end Cert.Proof.IdealRun

end
-- ==== Proof.IdealGather.lean ====
/-
  The two gathers of a batch. Both are started before either is waited for, on one semaphore: each gathered row is one of
  200 members of one batch, and after the second wait all of them have landed.
-/
module

public import proofs.«01_k».proof.Proof.IdealWindows
public import proofs.«01_k».proof.Proof.GatherBatch

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

variable (d : Dev nD) (L : grid0.Coords)

/-! ## The buffers cut into the windows and put together again -/

theorem rWin_rest : (Finset.univ : Finset S200x128.Idx) \ (rWin 0 inb_S200x128_S100x128_0_0).view.set = (rWin 100 inb_S200x128_S100x128_100_0).view.set := by
  ext y
  have hy : (y 0).val < 200 := (y 0).isLt
  rw [Finset.mem_sdiff, mem_rWin, mem_rWin]
  simp only [Finset.mem_univ, true_and]
  omega

theorem lWin_rest : (Finset.univ : Finset S2x100.Idx) \ (lWin 0 inb_S2x100_S1x100_0_0).view.set = (lWin 1 inb_S2x100_S1x100_1_0).view.set := by
  ext y
  have hy : (y 0).val < 2 := (y 0).isLt
  rw [Finset.mem_sdiff, mem_lWin, mem_lWin]
  simp only [Finset.mem_univ, true_and]
  omega

/-- The gathered rows are the two windows of 100 rows. -/
theorem rows_cut (f : S200x128.Idx → Elt F .f32) :
    ((rV).view.loc (V d (cV L) (jV L)) ↦{fullShare} (show Buf (Elt F) ((rV).view.loc (V d (cV L) (jV L))) from f) : sProp 𝕄)
      ⊣⊢ iprop(((rWin 0 inb_S200x128_S100x128_0_0).view.loc (V d (cV L) (jV L)) ↦[(rWin 0 inb_S200x128_S100x128_0_0).view.set]{fullShare} f)
        ∗ ((rWin 100 inb_S200x128_S100x128_100_0).view.loc (V d (cV L) (jV L)) ↦[(rWin 100 inb_S200x128_S100x128_100_0).view.set]{fullShare} f)) := by
  rw [← rWin_rest]
  exact pointsTo_split_subset (Finset.subset_univ _)

/-- The lists' buffer is the two lists. -/
theorem lists_cut (w : S2x100.Idx → BitVec 32) :
    ((lV).view.loc (V d (cV L) (jV L)) ↦{fullShare} (show Buf (Elt F) ((lV).view.loc (V d (cV L) (jV L))) from w) : sProp 𝕄)
      ⊣⊢ iprop(((lWin 0 inb_S2x100_S1x100_0_0).view.loc (V d (cV L) (jV L)) ↦[(lWin 0 inb_S2x100_S1x100_0_0).view.set]{fullShare} w)
        ∗ ((lWin 1 inb_S2x100_S1x100_1_0).view.loc (V d (cV L) (jV L)) ↦[(lWin 1 inb_S2x100_S1x100_1_0).view.set]{fullShare} w)) := by
  rw [← lWin_rest]
  exact pointsTo_split_subset (Finset.subset_univ _)

/-! ## The batch -/

theorem list_in (h : ℕ) (hh : h < 2) (inb : ∀ a, (![h, 0] : Fin 2 → ℕ) a + S1x100.size a ≤ S2x100.size a) {w : S2x100.Idx → BitVec 32} (hw : ∀ j, (w j).toNat < 100000) (x : S100.Idx) :
    ((lWin h inb).view.read (Elt F) w x : BitVec 32).toNat < S100000x128.size gathers_S100000x128_S100x128.axis := by
  rw [lWin_read (F := F) h inb hh]
  exact hw _

/-- What row `k` of the gather of list `h` into the window from row `o` on delivers. -/
def rowIn (o h : ℕ) (hh : h < 2) (inb : ∀ a, (![o, 0] : Fin 2 → ℕ) a + S100x128.size a ≤ S200x128.size a)
    (inb' : ∀ a, (![h, 0] : Fin 2 → ℕ) a + S1x100.size a ≤ S2x100.size a) (q : PosShare TreeShare)
    (w : S2x100.Idx → BitVec 32) (t : S100000x128.Idx → Elt F .f32) (f : S200x128.Idx → Elt F .f32) (hw : ∀ j, (w j).toNat < 100000)
    (k : Fin 100) : sProp 𝕄 :=
  GatherBatch.rowDeliv (V d (cV L) (jV L)) tAll (rWin o inb) gathers_S100000x128_S100x128 (lWin h inb') rfl (show 0 < 100 by decide) q fullShare
    t f w (SparseCore.rows ((lWin h inb').view.read (Elt F) w) rfl (list_in h hh inb' hw)) k

instance rowIn_storable (o h : ℕ) (hh : h < 2) (inb : ∀ a, (![o, 0] : Fin 2 → ℕ) a + S100x128.size a ≤ S200x128.size a)
    (inb' : ∀ a, (![h, 0] : Fin 2 → ℕ) a + S1x100.size a ≤ S2x100.size a) (q : PosShare TreeShare)
    (w : S2x100.Idx → BitVec 32) (t : S100000x128.Idx → Elt F .f32) (f : S200x128.Idx → Elt F .f32) (hw : ∀ j, (w j).toNat < 100000)
    (k : Fin 100) : Storable (upEmb : UEmb _ 𝕄) (rowIn d L o h hh inb inb' q w t f hw k) :=
  GatherBatch.rowDeliv_storable _ _ _ _ _ _ _ _ _ _ _ _ _ _

/-- All rows of that gather: the window at the rows the list names, the list and the share of the table back. -/
theorem rowIn_join (o h : ℕ) (hh : h < 2) (ho : o = 100 * h) (inb : ∀ a, (![o, 0] : Fin 2 → ℕ) a + S100x128.size a ≤ S200x128.size a)
    (inb' : ∀ a, (![h, 0] : Fin 2 → ℕ) a + S1x100.size a ≤ S2x100.size a) (q : PosShare TreeShare)
    (w : S2x100.Idx → BitVec 32) (t : S100000x128.Idx → Elt F .f32) (f : S200x128.Idx → Elt F .f32) (hw : ∀ j, (w j).toNat < 100000) :
    bigSep Finset.univ (rowIn d L o h hh inb inb' q w t f hw)
      ⊢ iprop(((rWin o inb).view.loc (V d (cV L) (jV L)) ↦[(rWin o inb).view.set]{fullShare} gathered w t)
        ∗ ((lWin h inb').view.loc (V d (cV L) (jV L)) ↦[(lWin h inb').view.set]{fullShare} w)
        ∗ ((tAll).view.loc (V d (cV L) (jV L)) ↦[(tAll).view.set]{q} t) : sProp 𝕄) := by
  rw [← pointsTo_congr (window_value o h hh ho inb inb' w t f (list_in h hh inb' hw))]
  exact GatherBatch.rowDeliv_join (F := F) (Ix := HIx 1) (Name := ℕ) (U := UU) (Lvl := ℕ) (V d (cV L) (jV L)) (src := tAll) (dst := rWin o inb)
    (hg := gathers_S100000x128_S100x128) (offs := lWin h inb') (hn := rfl) (q := q) (qo := fullShare) (fs := t) (fd := f) (fo := w)
    (SparseCore.rows ((lWin h inb').view.read (Elt F) w) rfl (list_in h hh inb' hw))

/-- The 200 members of the batch: the rows of the first gather, then those of the second. -/
def member (q : PosShare TreeShare) (w : S2x100.Idx → BitVec 32) (t : S100000x128.Idx → Elt F .f32) (f : S200x128.Idx → Elt F .f32)
    (hw : ∀ j, (w j).toNat < 100000) (i : Fin 200) : sProp 𝕄 :=
  if h : i.val < 100 then rowIn d L 0 0 (by decide) inb_S200x128_S100x128_0_0 inb_S2x100_S1x100_0_0 q.left w t f hw ⟨i.val, h⟩
  else rowIn d L 100 1 (by decide) inb_S200x128_S100x128_100_0 inb_S2x100_S1x100_1_0 q.right w t f hw ⟨i.val - 100, by omega⟩

instance member_storable (q : PosShare TreeShare) (w : S2x100.Idx → BitVec 32) (t : S100000x128.Idx → Elt F .f32) (f : S200x128.Idx → Elt F .f32)
    (hw : ∀ j, (w j).toNat < 100000) (i : Fin 200) : Storable (upEmb : UEmb _ 𝕄) (member d L q w t f hw i) := by
  unfold member; split <;> infer_instance

/-- All members delivered are all rows of the first gather and all rows of the second. -/
theorem members_all (q : PosShare TreeShare) (w : S2x100.Idx → BitVec 32) (t : S100000x128.Idx → Elt F .f32) (f : S200x128.Idx → Elt F .f32)
    (hw : ∀ j, (w j).toNat < 100000) :
    bigSep Finset.univ (member d L q w t f hw)
      ⊢ iprop(bigSep Finset.univ (rowIn d L 0 0 (by decide) inb_S200x128_S100x128_0_0 inb_S2x100_S1x100_0_0 q.left w t f hw)
        ∗ bigSep Finset.univ (rowIn d L 100 1 (by decide) inb_S200x128_S100x128_100_0 inb_S2x100_S1x100_1_0 q.right w t f hw) : sProp 𝕄) := by
  have eA : (fun k : Fin 100 => member d L q w t f hw ⟨0 + k.val, by omega⟩)
      = rowIn d L 0 0 (by decide) inb_S200x128_S100x128_0_0 inb_S2x100_S1x100_0_0 q.left w t f hw := by
    funext k
    refine (dif_pos (show 0 + k.val < 100 by omega)).trans ?_
    congr 1; exact Fin.ext (Nat.zero_add _)
  have eB : (fun k : Fin 100 => member d L q w t f hw ⟨100 + k.val, by omega⟩)
      = rowIn d L 100 1 (by decide) inb_S200x128_S100x128_100_0 inb_S2x100_S1x100_1_0 q.right w t f hw := by
    funext k
    refine (dif_neg (show ¬ 100 + k.val < 100 by omega)).trans ?_
    congr 1; exact Fin.ext (Nat.add_sub_cancel_left _ _)
  rw [← Transfers.pending_zero, GatherBatch.members_from _ 100 0 100 rfl (by decide), GatherBatch.members_from _ 100 100 200 rfl (by decide), eA, eB]
  iintro ⟨HA, HB, -⟩
  isplitl [HA] <;> iassumption

/-! ## The gathers and their waits -/

/-- The gather of list `h` into the window from row `o` on. -/
abbrev gatherP (o h : ℕ) (inb : ∀ a, (![o, 0] : Fin 2 → ℕ) a + S100x128.size a ≤ S200x128.size a)
    (inb' : ∀ a, (![h, 0] : Fin 2 → ℕ) a + S1x100.size a ≤ S2x100.size a) :
    Prog (TpuEff nD τ sig (Elt F) Λ₀ (.scVector (cV L) (jV L))) PUnit :=
  SparseCore.enqueueIndirectGather rfl tAll (rWin o inb) gathers_S100000x128_S100x128 (lWin h inb') rfl cc0_scratch3.sem (View.wordExact_bits rfl) rfl (Or.inl rfl)
/-- The wait for a gather into the window from row `o` on. -/
abbrev awaitP (o : ℕ) (inb : ∀ a, (![o, 0] : Fin 2 → ℕ) a + S100x128.size a ≤ S200x128.size a) :
    Prog (TpuEff nD τ sig (Elt F) Λ₀ (.scVector (cV L) (jV L))) PUnit :=
  SparseCore.waitIndirectGather cc0_scratch3.sem tAll (rWin o inb) (View.wordExact_bits rfl) (View.wordExact_bits rfl)

/-- What one gathered row credits the semaphore. -/
abbrev rowCredit : ℕ := sig.dmaCredit .scVector (Kind.scVector.table .vmem) (rV).view.buf (S100x128.rowShape gathers_S100000x128_S100x128.axis') .f32

theorem rowCredit_pos : 0 < rowCredit := by decide
theorem row_credit (o : ℕ) (inb : ∀ a, (![o, 0] : Fin 2 → ℕ) a + S100x128.size a ≤ S200x128.size a) (j : Fin (S100x128.size gathers_S100000x128_S100x128.axis')) :
    ((rWin o inb).slice (S100x128.rowRect gathers_S100000x128_S100x128.axis' j) (S100x128.stride_rowRect gathers_S100000x128_S100x128.axis' j)).view.dmaCredit = rowCredit := rfl
theorem window_credit (o : ℕ) (inb : ∀ a, (![o, 0] : Fin 2 → ℕ) a + S100x128.size a ≤ S200x128.size a) : (rWin o inb).view.dmaCredit = 100 * rowCredit := by
  show sig.dmaCredit .scVector (Kind.scVector.table .vmem) (rV).view.buf S100x128 .f32 = _
  decide

set_option maxHeartbeats 1000000 in
/-- Both gathers started, both waited for: the buffer holds the 200 rows the two lists name. -/
theorem gather_pair {O : CellTallies nD τ sig (HIx 1)} {W : Waits sig (HIx 1)} (q : PosShare TreeShare)
    (w : S2x100.Idx → BitVec 32) (t : S100000x128.Idx → Elt F .f32) (f : S200x128.Idx → Elt F .f32) (hw : ∀ j, (w j).toNat < 100000)
    {α : Type} {k : PUnit → Prog (TpuEff nD τ sig (Elt F) Λ₀ (.scVector (cV L) (jV L))) α} {Q : α → sProp 𝕄} :
    iprop(Transfers.MayWaits (V d (cV L) (jV L)) (default : HIx 1) O
        ∗ ((tV).view.loc (V d (cV L) (jV L)) ↦{q} (show Buf (Elt F) ((tV).view.loc (V d (cV L) (jV L))) from t))
        ∗ ((lV).view.loc (V d (cV L) (jV L)) ↦{fullShare} (show Buf (Elt F) ((lV).view.loc (V d (cV L) (jV L))) from w))
        ∗ ((rV).view.loc (V d (cV L) (jV L)) ↦{fullShare} (show Buf (Elt F) ((rV).view.loc (V d (cV L) (jV L))) from f))
        ∗ semVal (V d (cV L) (jV L), SemLoc.dma cc0_scratch3.sem) 0 ∗ owes (V d (cV L) (jV L)) O W)
      ⊢ iprop((iprop(((tV).view.loc (V d (cV L) (jV L)) ↦{q} (show Buf (Elt F) ((tV).view.loc (V d (cV L) (jV L))) from t))
            ∗ ((lV).view.loc (V d (cV L) (jV L)) ↦{fullShare} (show Buf (Elt F) ((lV).view.loc (V d (cV L) (jV L))) from w))
            ∗ ((rV).view.loc (V d (cV L) (jV L)) ↦{fullShare} (show Buf (Elt F) ((rV).view.loc (V d (cV L) (jV L))) from gathered w t))
            ∗ semVal (V d (cV L) (jV L), SemLoc.dma cc0_scratch3.sem) 0
            ∗ owes (V d (cV L) (jV L)) O (insert (SemLoc.dma cc0_scratch3.sem, (default : HIx 1)) (insert (SemLoc.dma cc0_scratch3.sem, (default : HIx 1)) W)))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (gatherP L 0 0 inb_S200x128_S100x128_0_0 inb_S2x100_S1x100_0_0 >>= fun _ =>
            gatherP L 100 1 inb_S200x128_S100x128_100_0 inb_S2x100_S1x100_1_0 >>= fun _ =>
            awaitP L 0 inb_S200x128_S100x128_0_0 >>= fun _ => awaitP L 100 inb_S200x128_S100x128_100_0 >>= k) Q) := by
  iintro ⟨#Hmw, Ht, Hl, Hr, Hsem, HO⟩ Hk
  ihave Hr2 := (rows_cut d L f).1 $$ Hr
  icases Hr2 with ⟨HrA, HrB⟩
  ihave Hl2 := (lists_cut d L w).1 $$ Hl
  icases Hl2 with ⟨HlA, HlB⟩
  ihave Ht1 := (Entails.of_eq (show ((tV).view.loc (V d (cV L) (jV L)) ↦{q} (show Buf (Elt F) ((tV).view.loc (V d (cV L) (jV L))) from t) : sProp 𝕄)
      = ((tAll).view.loc (V d (cV L) (jV L)) ↦[(tAll).view.set]{q} t) by rw [set_tAll])) $$ Ht
  ihave Ht2 := (pointsTo_share (PosShare.mem_left_op_right q)).1 $$ Ht1
  icases Ht2 with ⟨HtA, HtB⟩
  imod (Transfers.batch_alloc' (countersEmb (U := UU)) (c := V d (cV L) (jV L)) (sm := SemLoc.dma cc0_scratch3.sem) (default : HIx 1) rowCredit (member d L q w t f hw) (E := Set.univ)) $$ Hsem with HB
  iapply (GatherBatch.wp_gatherInBatch (countersEmb (U := UU)) 𝒱₀ (V d (cV L) (jV L)) none (default : HIx 1) rowCredit
      (row_credit 0 inb_S200x128_S100x128_0_0) (show 0 < 100 by decide) (list_in 0 (by decide) inb_S2x100_S1x100_0_0 hw)
      (q := q.left) (qo := fullShare) (fs := t) (fd := f) (fo := w) (j := 0) (u := 0) (D := member d L q w t f hw) (show 0 + 100 ≤ 200 by decide) (Nat.zero_le _)
      (fun i => by
        refine Entails.of_eq (Eq.symm ((dif_pos (show 0 + i.val < 100 from (Nat.zero_add _).symm ▸ i.isLt)).trans ?_))
        unfold rowIn; congr 1; exact Fin.ext (Nat.zero_add _))) $$ [HtA HrA HlA HB]
  · isplitl [HtA]; · iexact HtA
    isplitl [HrA]; · iexact HrA
    isplitl [HlA]; · iexact HlA
    iexact HB
  iintro HB
  iapply (GatherBatch.wp_gatherInBatch (countersEmb (U := UU)) 𝒱₀ (V d (cV L) (jV L)) none (default : HIx 1) rowCredit
      (row_credit 100 inb_S200x128_S100x128_100_0) (show 0 < 100 by decide) (list_in 1 (by decide) inb_S2x100_S1x100_1_0 hw)
      (q := q.right) (qo := fullShare) (fs := t) (fd := f) (fo := w) (j := 100) (u := 0) (D := member d L q w t f hw) (show 100 + 100 ≤ 200 by decide) (Nat.zero_le _)
      (fun i => by
        refine Entails.of_eq (Eq.symm ((dif_neg (show ¬ 100 + i.val < 100 from by omega)).trans ?_))
        unfold rowIn; congr 1; exact Fin.ext (Nat.add_sub_cancel_left _ _))) $$ [HtB HrB HlB HB]
  · isplitl [HtB]; · iexact HtB
    isplitl [HrB]; · iexact HrB
    isplitl [HlB]; · iexact HlB
    iexact HB
  iintro HB
  erw [SparseCore.waitIndirectGather_bind (c := V d (cV L) (jV L))]
  iapply (Transfers.wp_waitBatchMulO (countersEmb (U := UU)) 𝒱₀ (V d (cV L) (jV L)) none (default : HIx 1) (N := rowCredit) 100 (window_credit 0 inb_S200x128_S100x128_0_0)
      (D := member d L q w t f hw) (j := 200) (u := 0) (by omega)) $$ [HB HO]
  · isplitl [HB]; · iexact HB
    isplitl [HO]; · iexact HO
    iapply (Transfers.MayWaits.elim (SemLoc.dma cc0_scratch3.sem)); iexact Hmw
  iintro ⟨HB, HO⟩
  erw [SparseCore.waitIndirectGather_bind (c := V d (cV L) (jV L))]
  iapply (Transfers.wp_waitBatchAllO (countersEmb (U := UU)) 𝒱₀ (V d (cV L) (jV L)) none (default : HIx 1) (N := rowCredit) (J := 100 * rowCredit) (window_credit 100 inb_S200x128_S100x128_100_0) rowCredit_pos
      (D := member d L q w t f hw) (u := 0 + 100 * rowCredit) (by omega)) $$ [HB HO]
  · isplitl [HB]; · iexact HB
    isplitl [HO]; · iexact HO
    iapply (Transfers.MayWaits.elim (SemLoc.dma cc0_scratch3.sem)); iexact Hmw
  iintro ⟨HD, Hsem, HO⟩
  ihave HD2 := (members_all d L q w t f hw) $$ HD
  icases HD2 with ⟨HA, HB⟩
  ihave HA2 := (rowIn_join d L 0 0 Nat.zero_lt_two rfl inb_S200x128_S100x128_0_0 inb_S2x100_S1x100_0_0 q.left w t f hw) $$ HA
  ihave HB2 := (rowIn_join d L 100 1 Nat.one_lt_two rfl inb_S200x128_S100x128_100_0 inb_S2x100_S1x100_1_0 q.right w t f hw) $$ HB
  icases HA2 with ⟨HrA, HlA, HtA⟩
  icases HB2 with ⟨HrB, HlB, HtB⟩
  iapply Hk
  isplitl [HtA HtB]
  · ihave Ht := (pointsTo_share (PosShare.mem_left_op_right q)).2 $$ [HtA HtB]
    · isplitl [HtA] <;> iassumption
    rw [set_tAll]
    iexact Ht
  isplitl [HlA HlB]
  · iapply (lists_cut d L w).2
    isplitl [HlA] <;> iassumption
  isplitl [HrA HrB]
  · iapply (rows_cut d L (gathered w t)).2
    isplitl [HrA] <;> iassumption
  isplitl [Hsem]; · iexact Hsem
  iexact HO

end Cert.Proof.IdealRun

end
-- ==== Proof.IdealBatch.lean ====
/-
  One trip of a tile's outer loop: a batch's two lists are copied in, its 200 rows gathered, the position rows added, and
  the sums copied out to the batch's part of the output.
-/
module

public import proofs.«01_k».proof.Proof.IdealGather

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

variable (d : Dev nD) (L : grid0.Coords)

/-! ## The batch a trip works on -/

/-- Trip `k` of tile `(c, s)` works on batch `64 s + 32 c + k`. -/
def bOf (k : ℕ) (hk : k < 32) : Fin 1024 :=
  ⟨64 * (L 1).val + 32 * (L 0).val + k, by
    have h1 : (L 1).val < 16 := (L 1).isLt
    have h0 : (L 0).val < 2 := (L 0).isLt
    omega⟩

theorem t1_lt (k : Fin k0_t1_loop.trips) : k.val < 32 := lt_of_lt_of_le k.isLt k0_t1_abs.2.1

/-- The output's elements of batch `b`. -/
def outRow (b : Fin 1024) : Finset S1024x200x128.Idx := Finset.univ.filter fun y => (y 0).val = b.val

theorem mem_outRow (b : Fin 1024) (y : S1024x200x128.Idx) : y ∈ outRow b ↔ (y 0).val = b.val := by
  unfold outRow; rw [Finset.mem_filter]; exact and_iff_right (Finset.mem_univ _)

/-- What the output holds in the end: at every place the table's row and the position row added. -/
def sums (x : S1024x2x100.Idx → BitVec 32) (t : S100000x128.Idx → Elt F .f32) (p : S200x128.Idx → Elt F .f32) : S1024x200x128.Idx → Elt F .f32 :=
  fun i => FloatOps.addf (gathered (batchLists x (i 0)) t (ix2 (i 1) (i 2))) (p (ix2 (i 1) (i 2)))

/-! ## The batch's windows of the two arrays -/

abbrev iWin (k : Fin k0_t1_loop.trips) : Memref sig .scVector .hbm S2x100 .i32 :=
  ((iV).slice (Rect.unit (s := S1024x2x100) (k0_off1 L k) S1x2x100.size (k0_off1_inb L k)) (fun _ => rfl)).squeeze S2x100 squeezes_S1x2x100_S2x100
abbrev oWin (k : Fin k0_t1_loop.trips) : Memref sig .scVector .hbm S200x128 .f32 :=
  ((oV).slice (Rect.unit (s := S1024x200x128) (k0_off10 L k) S1x200x128.size (k0_off10_inb L k)) (fun _ => rfl)).squeeze S200x128 squeezes_S1x200x128_S200x128

/-- The lists' window reads the batch's lists. -/
theorem iWin_read (k : Fin k0_t1_loop.trips) (x : S1024x2x100.Idx → BitVec 32) :
    (iWin L k).view.read (Elt F) x = batchLists x (bOf L k.val (t1_lt k)) := by
  funext j
  have e : Shape.reshapeEquiv squeezes_S1x2x100_S2x100.numel_eq j = ix3 (0 : Fin 1) (j 0) (j 1) := by
    refine Shape.reshapeEquiv_eq_of_rowMajor _ ?_
    refine (Shape.rowMajor_val_three _).trans (Eq.trans ?_ (Shape.rowMajor_val_two _).symm)
    show (0 * 2 + (j 0).val) * 100 + (j 1).val = (j 0).val * 100 + (j 1).val
    omega
  show x ((Rect.unit (s := S1024x2x100) (k0_off1 L k) S1x2x100.size (k0_off1_inb L k)).emb (Shape.reshapeEquiv squeezes_S1x2x100_S2x100.numel_eq j)) = _
  rw [e]
  unfold batchLists
  congr 1
  funext a
  refine Fin.ext ?_
  have ho := congrFun (k0_off1_eq L k) a
  match a with
  | 0 => show k0_off1 L k 0 + 1 * 0 = 64 * (L 1).val + 32 * (L 0).val + k.val; rw [ho]; rfl
  | 1 => show k0_off1 L k 1 + 1 * (j 0).val = (j 0).val; rw [ho]; show 0 + 1 * (j 0).val = _; omega
  | 2 => show k0_off1 L k 2 + 1 * (j 1).val = (j 1).val; rw [ho]; show 0 + 1 * (j 1).val = _; omega

/-- The output's window puts row `i`, column `c` of its own at the batch, row `i`, column `c`. -/
theorem oWin_emb (k : Fin k0_t1_loop.trips) (j : S200x128.Idx) :
    (oWin L k).view.emb j = ix3 (bOf L k.val (t1_lt k)) (j 0) (j 1) := by
  have e : Shape.reshapeEquiv squeezes_S1x200x128_S200x128.numel_eq j = ix3 (0 : Fin 1) (j 0) (j 1) := by
    refine Shape.reshapeEquiv_eq_of_rowMajor _ ?_
    refine (Shape.rowMajor_val_three _).trans (Eq.trans ?_ (Shape.rowMajor_val_two _).symm)
    show (0 * 200 + (j 0).val) * 128 + (j 1).val = (j 0).val * 128 + (j 1).val
    omega
  show (Rect.unit (s := S1024x200x128) (k0_off10 L k) S1x200x128.size (k0_off10_inb L k)).emb (Shape.reshapeEquiv squeezes_S1x200x128_S200x128.numel_eq j) = _
  rw [e]
  funext a
  refine Fin.ext ?_
  have ho := congrFun (k0_off10_eq L k) a
  match a with
  | 0 => show k0_off10 L k 0 + 1 * 0 = 64 * (L 1).val + 32 * (L 0).val + k.val; rw [ho]; rfl
  | 1 => show k0_off10 L k 1 + 1 * (j 0).val = (j 0).val; rw [ho]; show 0 + 1 * (j 0).val = _; omega
  | 2 => show k0_off10 L k 2 + 1 * (j 1).val = (j 1).val; rw [ho]; show 0 + 1 * (j 1).val = _; omega

/-- The output's window is the batch's elements. -/
theorem oWin_set (k : Fin k0_t1_loop.trips) : (oWin L k).view.set = outRow (bOf L k.val (t1_lt k)) := by
  ext y
  rw [mem_outRow]
  constructor
  · intro h
    obtain ⟨j, -, rfl⟩ := Finset.mem_map.mp h
    rw [oWin_emb]
  · intro h
    refine Finset.mem_map.mpr ⟨ix2 (y 1) (y 2), Finset.mem_univ _, ?_⟩
    rw [oWin_emb, ← show y 0 = bOf L k.val (t1_lt k) from Fin.ext h]
    exact (ValueIdx.eq_ix3 y).symm

/-! ## The copies -/

set_option maxHeartbeats 1000000 in
/-- The batch's lists copied in. -/
theorem copy_in {O : CellTallies nD τ sig (HIx 1)} {W : Waits sig (HIx 1)} (k : Fin k0_t1_loop.trips) (q : PosShare TreeShare)
    (x : S1024x2x100.Idx → BitVec 32) (w : S2x100.Idx → BitVec 32) :
    iprop(Transfers.MayWaits (V d (cV L) (jV L)) (default : HIx 1) O
        ∗ ((iV).view.loc (V d (cV L) (jV L)) ↦{q} (show Buf (Elt F) ((iV).view.loc (V d (cV L) (jV L))) from x))
        ∗ ((lV).view.loc (V d (cV L) (jV L)) ↦{fullShare} (show Buf (Elt F) ((lV).view.loc (V d (cV L) (jV L))) from w))
        ∗ semVal (V d (cV L) (jV L), SemLoc.dma cc0_scoped1.sem) 0 ∗ owes (V d (cV L) (jV L)) O W)
      ⊢ (wp frame (wpE (defs₀ (F := F)) 𝒱₀ (V d (cV L) (jV L)) none) Set.univ
          (do
            Prog.lift (.enqueueDma (iWin L k) (.here lV) (.dma cc0_scoped1.sem) ((View.wordExact_bits rfl).reshape _ _) (Memref.isWhole_whole _).wordExact ⟨Or.inl rfl, trivial⟩)
            Prog.lift (.waitDma2 cc0_scoped1.sem (iWin L k) lV ((View.wordExact_bits rfl).reshape _ _) (Memref.isWhole_whole _).wordExact)
            pure PUnit.unit)
          fun _ => iprop(((iV).view.loc (V d (cV L) (jV L)) ↦{q} (show Buf (Elt F) ((iV).view.loc (V d (cV L) (jV L))) from x))
            ∗ ((lV).view.loc (V d (cV L) (jV L)) ↦{fullShare} (show Buf (Elt F) ((lV).view.loc (V d (cV L) (jV L))) from batchLists x (bOf L k.val (t1_lt k))))
            ∗ semVal (V d (cV L) (jV L), SemLoc.dma cc0_scoped1.sem) 0
            ∗ owes (V d (cV L) (jV L)) O (insert (SemLoc.dma cc0_scoped1.sem, (default : HIx 1)) W)) : sProp 𝕄) := by
  iintro ⟨Hmw, Hi, Hl, Hsem, HO⟩
  sl_exec (disch := exact View.amount_pos _ _ (show 0 < S2x100.numel by decide))
  sl_step
  isplitl [Hi]; · iexact Hi
  isplitl [Hl]
  · refine Entails.of_eq (congrArg _ ?_)
    sl_unfold_run_names
    refine (View.write_whole_univ _ _ _).trans ?_
    exact iWin_read L k x
  isplitl [Hsem]; · iexact Hsem
  iexact HO

set_option maxHeartbeats 1000000 in
/-- The batch's sums copied out. -/
theorem copy_out {O : CellTallies nD τ sig (HIx 1)} {W : Waits sig (HIx 1)} (k : Fin k0_t1_loop.trips)
    (g : S200x128.Idx → Elt F .f32) (f r : S1024x200x128.Idx → Elt F .f32) (hr : ∀ j, g j = r (ix3 (bOf L k.val (t1_lt k)) (j 0) (j 1))) :
    iprop(Transfers.MayWaits (V d (cV L) (jV L)) (default : HIx 1) O
        ∗ ((rV).view.loc (V d (cV L) (jV L)) ↦{fullShare} (show Buf (Elt F) ((rV).view.loc (V d (cV L) (jV L))) from g))
        ∗ ((oWin L k).view.loc (V d (cV L) (jV L)) ↦[outRow (bOf L k.val (t1_lt k))]{fullShare} f)
        ∗ semVal (V d (cV L) (jV L), SemLoc.dma cc0_scoped2.sem) 0 ∗ owes (V d (cV L) (jV L)) O W)
      ⊢ (wp frame (wpE (defs₀ (F := F)) 𝒱₀ (V d (cV L) (jV L)) none) Set.univ
          (do
            Prog.lift (.enqueueDma rV (.here (oWin L k)) (.dma cc0_scoped2.sem) (Memref.isWhole_whole _).wordExact ((View.wordExact_bits rfl).reshape _ _) ⟨Or.inl rfl, trivial⟩)
            Prog.lift (.waitDma2 cc0_scoped2.sem rV (oWin L k) (Memref.isWhole_whole _).wordExact ((View.wordExact_bits rfl).reshape _ _))
            pure PUnit.unit)
          fun _ => iprop(((rV).view.loc (V d (cV L) (jV L)) ↦{fullShare} (show Buf (Elt F) ((rV).view.loc (V d (cV L) (jV L))) from g))
            ∗ ((oWin L k).view.loc (V d (cV L) (jV L)) ↦[outRow (bOf L k.val (t1_lt k))]{fullShare} r)
            ∗ semVal (V d (cV L) (jV L), SemLoc.dma cc0_scoped2.sem) 0
            ∗ owes (V d (cV L) (jV L)) O (insert (SemLoc.dma cc0_scoped2.sem, (default : HIx 1)) W)) : sProp 𝕄) := by
  rw [← oWin_set]
  iintro ⟨Hmw, Hr, Ho, Hsem, HO⟩
  sl_exec (disch := exact View.amount_pos _ _ (show 0 < S200x128.numel by decide))
  sl_step
  isplitl [Hr]; · iexact Hr
  isplitl [Ho]
  · refine Entails.of_eq (pointsTo_congr fun i hi => ?_)
    obtain ⟨j, -, rfl⟩ := Finset.mem_map.mp hi
    sl_unfold_run_names
    refine Eq.trans ?_ ((hr j).trans (congrArg r (oWin_emb L k j).symm))
    refine ((View.read_apply (v := (oWin L k).view) _ _).trans (cast_eq _ _)).symm.trans ?_
    refine View.read_writes_apply_of_pieces (oWin L k).view f g _ ?_ j ?_
    · intro pc hpc
      obtain rfl := List.mem_singleton.mp hpc
      intro y
      exact congrArg g (funext fun a => Fin.ext (show (y a).val = 0 + 1 * (y a).val by omega))
    · exact ⟨_, List.mem_singleton.mpr rfl, by rw [Rect.set_whole]; exact Finset.mem_univ j⟩
  isplitl [Hsem]; · iexact Hsem
  iexact HO

/-! ## The trip -/

/-- Trip `k`'s program: the lists in, the two gathers and their waits, the rows added, the sums out. -/
theorem body_eq (v1 : BitVec 32) (k : Fin k0_t1_loop.trips) :
    k0_t1_body (F := F) L iV (Memref.isWhole_whole _) tV (Memref.isWhole_whole _) pV (Memref.isWhole_whole _) oV (Memref.isWhole_whole _)
            lV (Memref.isWhole_whole _) rV (Memref.isWhole_whole _) qV (Memref.isWhole_whole _) cc0_scratch3 cc0_scoped0 cc0_scoped1 cc0_scoped2 v1 k ⟨⟩
      = ((do
            Prog.lift (.enqueueDma (iWin L k) (.here lV) (.dma cc0_scoped1.sem) ((View.wordExact_bits rfl).reshape _ _) (Memref.isWhole_whole _).wordExact ⟨Or.inl rfl, trivial⟩)
            Prog.lift (.waitDma2 cc0_scoped1.sem (iWin L k) lV ((View.wordExact_bits rfl).reshape _ _) (Memref.isWhole_whole _).wordExact)
            pure PUnit.unit) >>= fun _ => gatherP L 0 0 inb_S200x128_S100x128_0_0 inb_S2x100_S1x100_0_0 >>= fun _ =>
            gatherP L 100 1 inb_S200x128_S100x128_100_0 inb_S2x100_S1x100_1_0 >>= fun _ =>
            awaitP L 0 inb_S200x128_S100x128_0_0 >>= fun _ => awaitP L 100 inb_S200x128_S100x128_100_0 >>= fun _ =>
            Scf.Loop.for k0_t2_loop k0_t2_ok ⟨⟩ (k0_t2_body L iV (Memref.isWhole_whole _) tV (Memref.isWhole_whole _) pV (Memref.isWhole_whole _) oV (Memref.isWhole_whole _)
              lV (Memref.isWhole_whole _) rV (Memref.isWhole_whole _) qV (Memref.isWhole_whole _) cc0_scratch3 cc0_scoped0 cc0_scoped1 cc0_scoped2) >>= fun _ =>
            (do
              Prog.lift (.enqueueDma rV (.here (oWin L k)) (.dma cc0_scoped2.sem) (Memref.isWhole_whole _).wordExact ((View.wordExact_bits rfl).reshape _ _) ⟨Or.inl rfl, trivial⟩)
              Prog.lift (.waitDma2 cc0_scoped2.sem rV (oWin L k) (Memref.isWhole_whole _).wordExact ((View.wordExact_bits rfl).reshape _ _))
              pure PUnit.unit) : Prog (TpuEff nD τ sig (Elt F) Λ₀ (.scVector (cV L) (jV L))) PUnit) := by
  unfold k0_t1_body
  simp only [k0_part3_eq_skeleton]
  rfl

theorem t2_trips : k0_t2_loop.trips = 200 := by decide +kernel

/-- The rows while the position rows are added: after `k` trips the first `k` are done. -/
def addInv (g p : S200x128.Idx → Elt F .f32) (k : ℕ) (_ : PUnit) : sProp 𝕄 :=
  iprop(((rV).view.loc (V d (cV L) (jV L)) ↦{fullShare} (show Buf (Elt F) ((rV).view.loc (V d (cV L) (jV L))) from mixed k g p))
    ∗ ((qV).view.loc (V d (cV L) (jV L)) ↦{fullShare} (show Buf (Elt F) ((qV).view.loc (V d (cV L) (jV L))) from p)))

/-- What a tile holds between two trips, the output apart: its shares of the lists and of the table, the position rows in
    its own memory, its buffers, its semaphores at zero. -/
def between (O : CellTallies nD τ sig (HIx 1)) (W : Waits sig (HIx 1)) (qi qt : PosShare TreeShare)
    (x : S1024x2x100.Idx → BitVec 32) (t : S100000x128.Idx → Elt F .f32) (p : S200x128.Idx → Elt F .f32) : sProp 𝕄 :=
  iprop(Transfers.MayWaits (V d (cV L) (jV L)) (default : HIx 1) O
    ∗ ((iV).view.loc (V d (cV L) (jV L)) ↦{qi} (show Buf (Elt F) ((iV).view.loc (V d (cV L) (jV L))) from x))
    ∗ ((tV).view.loc (V d (cV L) (jV L)) ↦{qt} (show Buf (Elt F) ((tV).view.loc (V d (cV L) (jV L))) from t))
    ∗ ((qV).view.loc (V d (cV L) (jV L)) ↦{fullShare} (show Buf (Elt F) ((qV).view.loc (V d (cV L) (jV L))) from p))
    ∗ (∃ w, (lV).view.loc (V d (cV L) (jV L)) ↦{fullShare} w)
    ∗ (∃ g, (rV).view.loc (V d (cV L) (jV L)) ↦{fullShare} g)
    ∗ semVal (V d (cV L) (jV L), SemLoc.dma cc0_scratch3.sem) 0
    ∗ semVal (V d (cV L) (jV L), SemLoc.dma cc0_scoped1.sem) 0
    ∗ semVal (V d (cV L) (jV L), SemLoc.dma cc0_scoped2.sem) 0
    ∗ ∃ W', ⌜∀ e ∈ W', e ∈ W ∨ e.2 = none⌝ ∗ owes (V d (cV L) (jV L)) O W')

/-- A wait of a copy's own adds nothing another thread is owed. -/
theorem waits_insert {W W' : Waits sig (HIx 1)} (s : SemLoc sig) (h : ∀ e ∈ W', e ∈ W ∨ e.2 = none) :
    ∀ e ∈ insert (s, (default : HIx 1)) W', e ∈ W ∨ e.2 = none := by
  intro e he
  rcases Finset.mem_insert.mp he with he | he
  · exact .inr (he ▸ rfl)
  · exact h e he

set_option maxHeartbeats 2000000 in
/-- Trip `k` takes the batch's part of the output to the sums and leaves the rest as it was. -/
theorem batch_trip {O : CellTallies nD τ sig (HIx 1)} {W : Waits sig (HIx 1)} (v1 : BitVec 32) (k : Fin k0_t1_loop.trips) (qi qt : PosShare TreeShare)
    (x : S1024x2x100.Idx → BitVec 32) (t : S100000x128.Idx → Elt F .f32) (p : S200x128.Idx → Elt F .f32) (f : S1024x200x128.Idx → Elt F .f32)
    (hx : ∀ j, (x j).toNat < 100000) :
    iprop(between d L O W qi qt x t p ∗ ((oV).view.loc (V d (cV L) (jV L)) ↦[outRow (bOf L k.val (t1_lt k))]{fullShare} f))
      ⊢ (wp frame (wpE (defs₀ (F := F)) 𝒱₀ (V d (cV L) (jV L)) none) Set.univ
          (k0_t1_body L iV (Memref.isWhole_whole _) tV (Memref.isWhole_whole _) pV (Memref.isWhole_whole _) oV (Memref.isWhole_whole _)
            lV (Memref.isWhole_whole _) rV (Memref.isWhole_whole _) qV (Memref.isWhole_whole _) cc0_scratch3 cc0_scoped0 cc0_scoped1 cc0_scoped2 v1 k ⟨⟩)
          fun _ => iprop(between d L O W qi qt x t p
            ∗ ((oV).view.loc (V d (cV L) (jV L)) ↦[outRow (bOf L k.val (t1_lt k))]{fullShare} sums x t p)) : sProp 𝕄) := by
  have hw : ∀ j, (batchLists x (bOf L k.val (t1_lt k)) j).toNat < 100000 := fun j => hx _
  rw [body_eq]
  unfold between
  iintro ⟨⟨#Hmw, Hi, Ht, Hq, ⟨%w, Hl⟩, ⟨%g, Hr⟩, Hs3, Hs1, Hs2, %W', %hW', HO⟩, Ho⟩
  rw [wp_bind]
  ihave H1 := (copy_in d L k qi x w) $$ [Hi Hl Hs1 HO]
  · isplitr; · iexact Hmw
    isplitl [Hi]; · iexact Hi
    isplitl [Hl]; · iexact Hl
    isplitl [Hs1]; · iexact Hs1
    iexact HO
  iapply (wp_wand_r _ _ _)
  isplitl [H1]; · iexact H1
  iintro %_ ⟨Hi, Hl, Hs1, HO⟩
  iapply (gather_pair d L qt (batchLists x (bOf L k.val (t1_lt k))) t g hw) $$ [Ht Hl Hr Hs3 HO]
  · isplitr; · iexact Hmw
    isplitl [Ht]; · iexact Ht
    isplitl [Hl]; · iexact Hl
    isplitl [Hr]; · iexact Hr
    isplitl [Hs3]; · iexact Hs3
    iexact HO
  iintro ⟨Ht, Hl, Hr, Hs3, HO⟩
  sl_for (addInv d L (gathered (batchLists x (bOf L k.val (t1_lt k))) t) p) $$ [Hr Hq]
  case region =>
    intro n _
    exact rowAdd_trip d L n (gathered (batchLists x (bOf L k.val (t1_lt k))) t) p
  · unfold addInv
    rw [mixed_zero]
    isplitl [Hr] <;> iassumption
  iintro %_ HI
  unfold addInv
  rw [mixed_all _ _ _ (le_of_eq t2_trips.symm)]
  icases HI with ⟨Hr, Hq⟩
  ihave H2 := (copy_out d L k (fun i => FloatOps.addf (gathered (batchLists x (bOf L k.val (t1_lt k))) t i) (p i)) f (sums x t p)
      (fun j => congrArg (fun z => FloatOps.addf (gathered (batchLists x (bOf L k.val (t1_lt k))) t z) (p z)) (ValueIdx.eq_ix2 j))) $$ [Hr Ho Hs2 HO]
  · isplitr; · iexact Hmw
    isplitl [Hr]; · iexact Hr
    isplitl [Ho]; · iexact Ho
    isplitl [Hs2]; · iexact Hs2
    iexact HO
  iapply (wp_wand_r _ _ _)
  isplitl [H2]; · iexact H2
  iintro %_ ⟨Hr, Ho, Hs2, HO⟩
  isplitr [Ho]
  · isplitr; · iexact Hmw
    isplitl [Hi]; · iexact Hi
    isplitl [Ht]; · iexact Ht
    isplitl [Hq]; · iexact Hq
    isplitl [Hl]; · iexists _; iexact Hl
    isplitl [Hr]; · iexists _; iexact Hr
    isplitl [Hs3]; · iexact Hs3
    isplitl [Hs1]; · iexact Hs1
    isplitl [Hs2]; · iexact Hs2
    iexists _
    isplitr
    swap; · iexact HO
    ipureintro; exact waits_insert _ (waits_insert _ (waits_insert _ (waits_insert _ hW')))
  · iexact Ho

end Cert.Proof.IdealRun

end
-- ==== Proof.IdealTile.lean ====
/-
  A tile's whole program: the position rows copied in once, then 32 batches.
-/
module

public import proofs.«01_k».proof.Proof.IdealBatch

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

/-! ## What a tile is given and brings back -/

/-- Batch `64 s + 32 c + j`. -/
def rowOf (c : Fin 2) (s : Fin 16) (j : Fin 32) : Fin 1024 := ⟨64 * s.val + 32 * c.val + j.val, by omega⟩

/-- The share of every array it reads that tile `(c, s)` is given. -/
def share (c : Fin 2) (s : Fin 16) : PosShare TreeShare :=
  Idealize.ShloMosaic.pieceOf (Idealize.ShloMosaic.pieceOf fullShare 2 (by decide) c) 16 (by decide) s

variable (m : (ℓ : Loc nD τ sig) → Buf (Elt F) ℓ)

/-- Tile `(c, s)`'s share of the lists, of the table and of the position rows, and its 32 batches of the output holding `f`. -/
def tileRes (d : Dev nD) (c : Fin 2) (s : Fin 16) (f : Buf (Elt F) (oLoc d)) : sProp 𝕄 :=
  iprop((iLoc d ↦{share c s} (show Buf (Elt F) (iLoc d) from lists m d)) ∗ (tLoc d ↦{share c s} m (tLoc d)) ∗ (pLoc d ↦{share c s} m (pLoc d))
    ∗ bigSep Finset.univ fun j : Fin 32 => oLoc d ↦[outRow (rowOf c s j)]{fullShare} f)

section Tile

variable (d : Dev nD) (L : grid0.Coords)

theorem bound_zero : grid0.bound 0 = 2 := rfl
theorem bound_one : grid0.bound 1 = 16 := rfl
/-- The tile's numbers as the arrays are dealt by. -/
abbrev cL : Fin 2 := Fin.cast bound_zero (L 0)
abbrev sL : Fin 16 := Fin.cast bound_one (L 1)

/-! ## The tile's own semaphores and buffers -/

abbrev gCell (d : Dev nD) (c : Fin τ.nSC) (i : Fin τ.nSub) : GSem nD τ sig := (V d c i, .dma cc0_scratch3.sem)
abbrev pCell (d : Dev nD) (c : Fin τ.nSC) (i : Fin τ.nSub) : GSem nD τ sig := (V d c i, .dma cc0_scoped0.sem)
abbrev lCell (d : Dev nD) (c : Fin τ.nSC) (i : Fin τ.nSub) : GSem nD τ sig := (V d c i, .dma cc0_scoped1.sem)
abbrev oCell (d : Dev nD) (c : Fin τ.nSC) (i : Fin τ.nSub) : GSem nD τ sig := (V d c i, .dma cc0_scoped2.sem)

theorem own_cell (sm : SemLoc sig) (h : sm.isScoped .scVector = true) : ((V d (cV L) (jV L), sm) : GSem nD τ sig) ∈ ownCells (V d (cV L) (jV L)) :=
  mem_ownCells.mpr ⟨rfl, h⟩

theorem cell_ne {a b : SemLoc sig} (h : a ≠ b) : ((V d (cV L) (jV L), a) : GSem nD τ sig) ≠ (V d (cV L) (jV L), b) :=
  fun e => h (congrArg Prod.snd e)

/-- The four semaphores the kernel uses are among the tile's own: they are them and the rest. -/
theorem ownSems0_V :
    (ownSems0 (V d (cV L) (jV L)) : sProp 𝕄)
      = iprop(semVal (gCell d (cV L) (jV L)) 0 ∗ semVal (pCell d (cV L) (jV L)) 0 ∗ semVal (lCell d (cV L) (jV L)) 0 ∗ semVal (oCell d (cV L) (jV L)) 0
          ∗ bigSep (((((ownCells (V d (cV L) (jV L))).erase (gCell d (cV L) (jV L))).erase (pCell d (cV L) (jV L))).erase (lCell d (cV L) (jV L))).erase
              (oCell d (cV L) (jV L))) fun g => semVal g 0) := by
  have hg := own_cell d L (.dma cc0_scratch3.sem) (by decide)
  have hp := own_cell d L (.dma cc0_scoped0.sem) (by decide)
  have hl := own_cell d L (.dma cc0_scoped1.sem) (by decide)
  have ho := own_cell d L (.dma cc0_scoped2.sem) (by decide)
  unfold SparseCore.Cfg.ownSems0
  rw [SparseCore.bigSep_erase' hg,
    SparseCore.bigSep_erase' (Finset.mem_erase.mpr ⟨cell_ne d L (by decide), hp⟩),
    SparseCore.bigSep_erase' (Finset.mem_erase.mpr ⟨cell_ne d L (by decide), Finset.mem_erase.mpr ⟨cell_ne d L (by decide), hl⟩⟩),
    SparseCore.bigSep_erase' (Finset.mem_erase.mpr ⟨cell_ne d L (by decide), Finset.mem_erase.mpr ⟨cell_ne d L (by decide),
      Finset.mem_erase.mpr ⟨cell_ne d L (by decide), ho⟩⟩⟩)]

/-- The three buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The loop over the batches -/

/-- The output after `k` trips: the first `k` batches of the tile hold `g`, the others still `f`. -/
def outAt (f g : Buf (Elt F) (oLoc d)) (k : ℕ) : sProp 𝕄 :=
  bigSep Finset.univ fun j : Fin 32 => (oV).view.loc (V d (cV L) (jV L)) ↦[outRow (rowOf (cL L) (sL L) j)]{fullShare} (if j.val < k then g else f)

/-- Of two things, the first can be lent out and come back as another. -/
theorem lend (A A' R : sProp 𝕄) : iprop(A ∗ R) ⊢ iprop(A ∗ (A' -∗ A' ∗ R)) := by
  iintro ⟨HA, HR⟩
  isplitl [HA]; · iexact HA
  iintro HA
  isplitl [HA]; · iexact HA
  iexact HR

/-- Taking out the batch of trip `k`, and putting it back changed. -/
theorem outAt_step (f g : Buf (Elt F) (oLoc d)) (k : Fin k0_t1_loop.trips) :
    (outAt d L f g k.val : sProp 𝕄) ⊢ iprop(((oV).view.loc (V d (cV L) (jV L)) ↦[outRow (bOf L k.val (t1_lt k))]{fullShare} f)
      ∗ (((oV).view.loc (V d (cV L) (jV L)) ↦[outRow (bOf L k.val (t1_lt k))]{fullShare} g) -∗ outAt d L f g (k.val + 1))) := by
  unfold outAt
  rw [BI.bigSep_univ_split (⟨k.val, t1_lt k⟩ : Fin 32), BI.bigSep_univ_split (⟨k.val, t1_lt k⟩ : Fin 32), if_neg (Nat.lt_irrefl _), if_pos (Nat.lt_succ_self _)]
  have e : (bigSep (Finset.univ.erase (⟨k.val, t1_lt k⟩ : Fin 32)) fun j : Fin 32 =>
        ((oV).view.loc (V d (cV L) (jV L)) ↦[outRow (rowOf (cL L) (sL L) j)]{fullShare} (if j.val < k.val then g else f) : sProp 𝕄))
      = bigSep (Finset.univ.erase (⟨k.val, t1_lt k⟩ : Fin 32)) fun j : Fin 32 =>
        ((oV).view.loc (V d (cV L) (jV L)) ↦[outRow (rowOf (cL L) (sL L) j)]{fullShare} (if j.val < k.val + 1 then g else f)) :=
    bigSep_congr fun j hj => by
      have hne : j.val ≠ k.val := fun h => (Finset.mem_erase.mp hj).1 (Fin.ext h)
      by_cases h : j.val < k.val
      · rw [if_pos h, if_pos (by omega)]
      · rw [if_neg h, if_neg (by omega)]
  rw [e]
  exact lend _ _ _

theorem t1_trips : k0_t1_loop.trips = 32 := by decide +kernel

/-- What the tile holds between two trips. -/
def loopInv (O : CellTallies nD τ sig (HIx 1)) (W : Waits sig (HIx 1)) (k : ℕ) (_ : PUnit) : sProp 𝕄 :=
  iprop(between d L O W (share (cL L) (sL L)) (share (cL L) (sL L)) (lists m d) (m (tLoc d)) (m (pLoc d)) ∗ outAt d L (m (oLoc d)) (out m d) k)

set_option maxHeartbeats 2000000 in
/-- The tile's program brings its batches of the output from what they held to the sums. -/
theorem tile_body (hF : (K (F := F)).Facts) (hpre : InTable m) (O : CellTallies nD τ sig (HIx 1)) (W : Waits sig (HIx 1)) (hO : ∀ g, O g none = 0) :
    iprop(levAts (K (F := F)).L (K (F := F)).lev ∗ emp ∗ tileRes m d (cL L) (sL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_emb_kernel L iV (Memref.isWhole_whole _) tV (Memref.isWhole_whole _) pV (Memref.isWhole_whole _) oV (Memref.isWhole_whole _)
            lV (Memref.isWhole_whole _) rV (Memref.isWhole_whole _) qV (Memref.isWhole_whole _) cc0_scratch3 cc0_scoped0 cc0_scoped1 cc0_scoped2)
          fun _ => iprop(tileRes m d (cL L) (sL L) (out m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_emb_kernel_eq_skeleton]; unfold cc0_emb_kernel_skel
  rw [(K (F := F)).scopedBufs_V hF d (cV L) (jV L), SparseCore.Cfg.scopedSems0_V (Val := Elt F) d (cV L) (jV L), ownSems0_V, ownBufs_V]
  unfold tileRes
  iintro ⟨#Hlv, -, ⟨Hi, Ht, Hp, Ho⟩, ⟨⟨%fl, Hl⟩, ⟨%fr, Hr⟩, ⟨%fp, Hq⟩, Hbufs⟩, ⟨Hs3, Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (show (pLoc d ↦{share (cL L) (sL L)} m (pLoc d) : sProp 𝕄) = (pV).view.loc (V d (cV L) (jV L)) ↦{share (cL L) (sL L)} m (pLoc d) from rfl)) $$ Hp
  ihave Hq' := (Entails.of_eq (show ((V d (cV L) (jV L)).loc cc0_scratch2 ↦{fullShare} fp : sProp 𝕄) = (qV).view.loc (V d (cV L) (jV L)) ↦{fullShare} fp from rfl)) $$ Hq
  sl_exec
  ihave Hq := (Entails.of_eq (show ((qV).view.loc (V d (cV L) (jV L)) ↦{fullShare} _ : sProp 𝕄)
      = (qV).view.loc (V d (cV L) (jV L)) ↦{fullShare} (show Buf (Elt F) ((qV).view.loc (V d (cV L) (jV L))) from m (pLoc d)) from
    congrArg _ (View.write_whole_univ _ _ _))) $$ Hq'
  sl_for (loopInv m d L O W) $$ [Hmw Hi Ht Hq Hl Hr Hs3 Hs1 Hs2 HO Ho]
  case region =>
    intro k _
    unfold loopInv
    iintro ⟨Hb, Ho⟩
    ihave Ho' := (outAt_step d L (m (oLoc d)) (out m d) k) $$ Ho
    icases Ho' with ⟨Ho, Hback⟩
    ihave H := (batch_trip d L _ k (share (cL L) (sL L)) (share (cL L) (sL L)) (lists m d) (m (tLoc d)) (m (pLoc d)) (m (oLoc d)) (lists_lt m hpre d)) $$ [Hb Ho]
    · isplitl [Hb] <;> iassumption
    iapply (wp_wand_r _ _ _)
    isplitl [H]; · iexact H
    iintro %_ ⟨Hb, Ho⟩
    isplitl [Hb]; · iexact Hb
    iapply Hback
    iexact Ho
  · unfold loopInv between outAt
    isplitr [Ho]
    · isplitl [Hmw]; · iexact Hmw
      isplitl [Hi]; · iexact Hi
      isplitl [Ht]; · iexact Ht
      isplitl [Hq]; · iexact Hq
      isplitl [Hl]; · iexists _; iexact Hl
      isplitl [Hr]; · iexists _; iexact Hr
      isplitl [Hs3]; · iexact Hs3
      isplitl [Hs1]; · iexact Hs1
      isplitl [Hs2]; · iexact Hs2
      iexists _
      isplitr
      swap; · iexact HO
      ipureintro; exact waits_insert _ (fun e he => .inl he)
    · rw [show (fun j : Fin 32 => ((oV).view.loc (V d (cV L) (jV L)) ↦[outRow (rowOf (cL L) (sL L) j)]{fullShare} (if j.val < 0 then out m d else m (oLoc d)) : sProp 𝕄))
        = fun j => oLoc d ↦[outRow (rowOf (cL L) (sL L) j)]{fullShare} m (oLoc d) from funext fun j => by rw [if_neg (Nat.not_lt_zero _)]]
      iexact Ho
  iintro %_ HI
  unfold loopInv between outAt
  rw [show (fun j : Fin 32 => ((oV).view.loc (V d (cV L) (jV L)) ↦[outRow (rowOf (cL L) (sL L) j)]{fullShare} (if j.val < k0_t1_loop.trips then out m d else m (oLoc d)) : sProp 𝕄))
    = fun j => oLoc d ↦[outRow (rowOf (cL L) (sL L) j)]{fullShare} out m d from funext fun j => by rw [if_pos (lt_of_lt_of_eq j.isLt t1_trips.symm)]]
  icases HI with ⟨⟨-, Hi, Ht, Hq, ⟨%fl', Hl⟩, ⟨%fr', Hr⟩, Hs3, Hs1, Hs2, %W', %hW', HO⟩, Ho⟩
  sl_exec
  sl_step
  isplitl [Hi Ht Hp' Ho]
  · isplitl [Hi]; · iexact Hi
    isplitl [Ht]; · iexact Ht
    isplitl [Hp']; · iexact Hp'
    iexact Ho
  isplitl [Hl Hr Hq Hbufs]
  · isplitl [Hl]; · iexists _; iexact Hl
    isplitl [Hr]; · iexists _; iexact Hr
    isplitl [Hq]; · iexists _; iexact Hq
    iexact Hbufs
  isplitl [Hs3 Hs0 Hs1 Hs2 Hsems]
  · isplitl [Hs3]; · iexact Hs3
    isplitl [Hs0]; · iexact Hs0
    isplitl [Hs1]; · iexact Hs1
    isplitl [Hs2]; · iexact Hs2
    iexact Hsems
  iexists W'; isplitr
  · ipureintro; exact hW'
  · iexact HO

end Tile

end Cert.Proof.IdealRun

end
-- ==== Proof.IdealCall.lean ====
/-
  The call: what each SparseCore and each tile is handed and hands back, and the tiles' obligation met by the tile's program.
-/
module

public import proofs.«01_k».proof.Proof.IdealTile

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

variable (m : (ℓ : Loc nD τ sig) → Buf (Elt F) ℓ)

theorem nCore_zero : (K (F := F)).nCore 0 = 2 := rfl
theorem nSub_zero : (K (F := F)).nSub 0 = 16 := rfl

/-! ## What the call hands over -/

/-- SparseCore `c`'s part: its 16 tiles' parts. -/
def coreRes (d : Dev nD) (c : Fin 2) (f : Buf (Elt F) (oLoc d)) : sProp 𝕄 := bigSep Finset.univ fun s : Fin 16 => tileRes m d c s f

instance tileRes_storable (d : Dev nD) (c : Fin 2) (s : Fin 16) (f : Buf (Elt F) (oLoc d)) : BI.Storable (upEmb : UEmb _ 𝕄) (tileRes m d c s f) := by
  unfold tileRes; infer_instance
instance coreRes_storable (d : Dev nD) (c : Fin 2) (f : Buf (Elt F) (oLoc d)) : BI.Storable (upEmb : UEmb _ 𝕄) (coreRes m d c f) := by
  unfold coreRes; infer_instance

/-- The call's payloads: the output goes in at its launch contents and comes back as `out`. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (out m d)
  go := fun q d c i => match q with | 0 => tileRes m d (Fin.cast nCore_zero c) (Fin.cast nSub_zero i) (m (oLoc d))
  td := fun q d c i => match q with | 0 => tileRes m d (Fin.cast nCore_zero c) (Fin.cast nSub_zero i) (out m d)
  x := fun _ _ => iprop(emp)

instance P_storable : (P (F := F) m).IsStorable where
  st q d c := match q with | 0 => coreRes_storable m d (Fin.cast nCore_zero c) (m (oLoc d))
  dn q d c := match q with | 0 => coreRes_storable m d (Fin.cast nCore_zero c) (out m d)
  go q d c i := match q with | 0 => tileRes_storable m d (Fin.cast nCore_zero c) (Fin.cast nSub_zero i) (m (oLoc d))
  td q d c i := match q with | 0 => tileRes_storable m d (Fin.cast nCore_zero c) (Fin.cast nSub_zero i) (out m d)

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tiles' parts, going and coming back. -/
theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (out m d))
          -∗ coreRes m d (Fin.cast nCore_zero c) (out m d)))
  rw [bigSep_tiles (F := F) (fun i => tileRes m d (Fin.cast nCore_zero c) i (m (oLoc d))),
    bigSep_tiles (F := F) (fun i => tileRes m d (Fin.cast nCore_zero c) i (out m d))]
  unfold coreRes
  iintro H; imodintro
  isplitl [H]; · iexact H
  iintro H
  iexact H

/-! ## The obligation -/

/-- The pair of numbers of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s)
          iV (Memref.isWhole_whole _) tV (Memref.isWhole_whole _) pV (Memref.isWhole_whole _) oV (Memref.isWhole_whole _)
          lV (Memref.isWhole_whole _) rV (Memref.isWhole_whole _) qV (Memref.isWhole_whole _) cc0_scratch3 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, given its part, runs to its part with the output at the sums. -/
theorem tileObl (hF : (K (F := F)).Facts) (hpre : InTable m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.IdealRun

end
-- ==== Proof.IdealMain.lean ====
/-
  The whole program: the reshape, the arrays dealt to the 32 tiles, the call, and what the arrays hold at the end.
-/
module

public import proofs.«01_k».proof.Proof.IdealCall

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S1024x2x100 EltTy.i32)
local notation "tV" => (Memref.whole Cert.KernelIdeal.main_arg1_scv : Memref Cert.KernelIdeal.sig Kind.scVector Space.hbm Cert.KernelIdeal.S100000x128 EltTy.f32)
local notation "pV" => (Memref.whole Cert.KernelIdeal.main_arg2_scv : Memref Cert.KernelIdeal.sig Kind.scVector Space.hbm Cert.KernelIdeal.S200x128 EltTy.f32)
local notation "oV" => (Memref.whole Cert.KernelIdeal.main_v1_scv : Memref Cert.KernelIdeal.sig Kind.scVector Space.hbm Cert.KernelIdeal.S1024x200x128 EltTy.f32)
local notation "lV" => (Memref.whole Cert.KernelIdeal.cc0_scratch0 : Memref Cert.KernelIdeal.sig Kind.scVector Space.vmem Cert.KernelIdeal.S2x100 EltTy.i32)
local notation "rV" => (Memref.whole Cert.KernelIdeal.cc0_scratch1 : Memref Cert.KernelIdeal.sig Kind.scVector Space.vmem Cert.KernelIdeal.S200x128 EltTy.f32)
local notation "qV" => (Memref.whole Cert.KernelIdeal.cc0_scratch2 : Memref Cert.KernelIdeal.sig Kind.scVector Space.vmem Cert.KernelIdeal.S200x128 EltTy.f32)

variable (m : (ℓ : Loc nD τ sig) → Buf (Elt F) ℓ) (ρ : Dev nD → PrngReg)

/-! ## The arrays dealt to the tiles -/

/-- A whole array is the 2 × 16 tiles' shares of it. -/
theorem shares_cut {ℓ : Loc nD τ sig} (f : Buf (Elt F) ℓ) :
    (ℓ ↦{fullShare} f : sProp 𝕄) = bigSep Finset.univ fun c : Fin 2 => bigSep Finset.univ fun s : Fin 16 => ℓ ↦{share c s} f :=
  (pointsTo_piecesOf Finset.univ f (by decide) fullShare).trans
    (bigSep_congr fun c _ => pointsTo_piecesOf Finset.univ f (by decide) (Idealize.ShloMosaic.pieceOf fullShare 2 (by decide) c))

/-- The batch of a tile's trip, as a number of the three. -/
def batchOf (x : Fin 2 × Fin 16 × Fin 32) : Fin 1024 := rowOf x.1 x.2.1 x.2.2

theorem batchOf_val (x : Fin 2 × Fin 16 × Fin 32) : (batchOf x).val = 64 * x.2.1.val + 32 * x.1.val + x.2.2.val := rfl

/-- Different trips have different batches, -/
theorem batches_disjoint : ∀ x ∈ (Finset.univ : Finset (Fin 2 × Fin 16 × Fin 32)), ∀ y ∈ (Finset.univ : Finset (Fin 2 × Fin 16 × Fin 32)), x ≠ y →
    Disjoint (outRow (batchOf x)) (outRow (batchOf y)) := by
  intro x _ y _ hne
  rw [Finset.disjoint_left]
  intro i hx hy
  rw [mem_outRow, batchOf_val] at hx hy
  apply hne
  obtain ⟨c, s, j⟩ := x
  obtain ⟨c', s', j'⟩ := y
  simp only at hx hy
  have h1 : c = c' := Fin.ext (by omega)
  have h2 : s = s' := Fin.ext (by omega)
  have h3 : j = j' := Fin.ext (by omega)
  rw [h1, h2, h3]

/-- and every index lies in some trip's batch. -/
theorem batches_cover : (Finset.univ : Finset (Fin 2 × Fin 16 × Fin 32)).biUnion (fun x => outRow (batchOf x)) = Finset.univ := by
  refine Finset.eq_univ_of_forall fun i => ?_
  have hi : (i 0).val < 1024 := (i 0).isLt
  generalize hn : (i 0).val = n at hi
  have hc : n % 64 / 32 < 2 := by omega
  have hs : n / 64 < 16 := by omega
  have hj : n % 32 < 32 := by omega
  let x : Fin 2 × Fin 16 × Fin 32 := ⟨⟨n % 64 / 32, hc⟩, ⟨n / 64, hs⟩, ⟨n % 32, hj⟩⟩
  have hx : (i 0).val = (batchOf x).val := by
    rw [hn, batchOf_val]
    show n = 64 * (n / 64) + 32 * (n % 64 / 32) + n % 32
    omega
  rw [Finset.mem_biUnion]
  exact ⟨x, Finset.mem_univ x, (mem_outRow (batchOf x) i).mpr hx⟩

/-- The output is the tiles' batches of it. -/
theorem batches_cut (d : Dev nD) (f : Buf (Elt F) (oLoc d)) :
    (oLoc d ↦{fullShare} f : sProp 𝕄) = bigSep Finset.univ fun c : Fin 2 => bigSep Finset.univ fun s : Fin 16 =>
      bigSep Finset.univ fun j : Fin 32 => oLoc d ↦[outRow (rowOf c s j)]{fullShare} f := by
  have h := pointsTo_biUnion (q := fullShare) (f := f) Finset.univ (ℓ := oLoc d) (fun x => outRow (batchOf x)) batches_disjoint (Ix := HIx 1) (Name := ℕ) (U := UU) (Lvl := ℕ)
  rw [batches_cover] at h
  refine h.trans ?_
  rw [BI.bigSep_univ_prod]
  refine bigSep_congr fun c _ => ?_
  rw [BI.bigSep_univ_prod]
  rfl

/-- The four arrays, held whole, are the tiles' parts. -/
theorem tiles_cut (d : Dev nD) (f : Buf (Elt F) (oLoc d)) :
    iprop((iLoc d ↦{fullShare} (show Buf (Elt F) (iLoc d) from lists m d)) ∗ (tLoc d ↦{fullShare} m (tLoc d)) ∗ (pLoc d ↦{fullShare} m (pLoc d)) ∗ (oLoc d ↦{fullShare} f))
      = (bigSep Finset.univ fun c : Fin 2 => coreRes m d c f : sProp 𝕄) := by
  rw [shares_cut (F := F) (ℓ := iLoc d), shares_cut (F := F) (ℓ := tLoc d), shares_cut (F := F) (ℓ := pLoc d), batches_cut]
  unfold coreRes tileRes
  simp only [bigSep_sep']

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun _ : Dev nD => iprop(emp)) = (iprop(emp) : sProp 𝕄) := bigSep_emp_const _
  have e' : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const Finset.univ)
  rw [e, e']
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

/-- The five arrays of the program. -/
abbrev a' : DevRef τ sig := Proc.tc.devRef main_arg0
abbrev t' : DevRef τ sig := Proc.tc.devRef main_arg1
abbrev p' : DevRef τ sig := Proc.tc.devRef main_arg2
abbrev i' : DevRef τ sig := Proc.tc.devRef main_v0
abbrev o' : DevRef τ sig := Proc.tc.devRef main_v1
def arrays : Finset (DevRef τ sig) := {a', t', p', i', o'}

theorem held_arrays (d : Dev nD) (W : Valuation τ sig (Elt F)) :
    (held (T d) arrays W : sProp 𝕄)
      = iprop((aLoc d ↦{fullShare} W a') ∗ (tLoc d ↦{fullShare} W t') ∗ (pLoc d ↦{fullShare} W p') ∗ (iLoc d ↦{fullShare} W i') ∗ oLoc d ↦{fullShare} W o') := by
  unfold held arrays
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (pLoc d ↦{fullShare} W main_arg2)
          ∗ (iLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- What the arrays hold at launch. -/
def V0 (d : Dev nD) : Valuation τ sig (Elt F) := fun b => m (d, b)

theorem unscoped_held (d : Dev nD) : (unscopedBufs d (fun b => m ((SparseCore.T d).loc b)) : sProp 𝕄) = held (T d) arrays (V0 m d) := by
  rw [unscopedBufs_eq, held_arrays]; rfl

/-- The reshape of the row numbers into lists. -/
abbrev opLists : HloOp τ sig (Elt F) := StableHlo.reshape main_arg0 main_v0 (rfl : (.i32 : EltTy) = .i32) shapeCasts_S1024x200_S1024x2x100

theorem opLists_sub : (opLists (F := F)).bufs ⊆ arrays := show ({a', i'} : Finset (DevRef τ sig)) ⊆ arrays by decide

/-- After the reshape the four other arrays are as at launch, and the lists hold the row numbers. -/
theorem held_lists (d : Dev nD) :
    (held (T d) arrays ((opLists (F := F)).result (V0 m d)) : sProp 𝕄)
      = iprop((aLoc d ↦{fullShare} m (aLoc d)) ∗ (tLoc d ↦{fullShare} m (tLoc d)) ∗ (pLoc d ↦{fullShare} m (pLoc d))
          ∗ (iLoc d ↦{fullShare} (show Buf (Elt F) (iLoc d) from lists m d)) ∗ oLoc d ↦{fullShare} m (oLoc d)) := by
  rw [held_arrays,
    (opLists (F := F)).result_of_not_mem _ (show a' ∉ ({i'} : Finset (DevRef τ sig)) by decide),
    (opLists (F := F)).result_of_not_mem _ (show t' ∉ ({i'} : Finset (DevRef τ sig)) by decide),
    (opLists (F := F)).result_of_not_mem _ (show p' ∉ ({i'} : Finset (DevRef τ sig)) by decide),
    (opLists (F := F)).result_of_not_mem _ (show o' ∉ ({i'} : Finset (DevRef τ sig)) by decide),
    show (opLists (F := F)).result (V0 m d) i' = (show Buf (Elt F) (iLoc d) from lists m d) from StableHlo.reshape_result _ _ _ _ _ _ _]
  rfl

theorem st0_eq (d : Dev nD) : (bigSep Finset.univ fun c : Fin ((K (F := F)).nCore 0) => (P m).st 0 d c) = bigSep Finset.univ fun c : Fin 2 => coreRes m d c (m (oLoc d)) :=
  bigSep_cores fun c => coreRes m d c (m (oLoc d))
theorem dn0_eq (d : Dev nD) : (bigSep Finset.univ fun c : Fin ((K (F := F)).nCore 0) => (P m).dn 0 d c) = bigSep Finset.univ fun c : Fin 2 => coreRes m d c (out m d) :=
  bigSep_cores fun c => coreRes m d c (out m d)

/-- What the program leaves: the three arguments at their launch contents, the output at `out`. -/
abbrev FIN (d : Dev nD) : sProp 𝕄 :=
  iprop((aLoc d ↦{fullShare} m (aLoc d)) ∗ (tLoc d ↦{fullShare} m (tLoc d)) ∗ (pLoc d ↦{fullShare} m (pLoc d)) ∗ oLoc d ↦{fullShare} out m d)

/-- The program on a device's TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opLists) (S := arrays) opLists_sub (V := V0 m d)) $$ [Hb Hheld]
  · isplitl [Hb] <;> iassumption
  iintro ⟨Hb, Hheld⟩
  rw [wp_ret]; imodintro
  ihave Hh := (Entails.of_eq (held_lists m d)) $$ Hheld
  icases Hh with ⟨Ha, Ht, Hp, Hi, Ho⟩
  iapply ((K (F := F)).wp_run (D (F := F)) 𝒱 (EH := EH) (P := P m) κ d 0) $$ [Hst Ha Ht Hp Hi Ho Hb Hts]
  isplitr; · iexact Hctx
  isplitl [Hst]; · iexact Hst
  isplitl [Ht Hp Hi Ho]
  · rw [st0_eq, ← tiles_cut]
    isplitl [Hi]; · iexact Hi
    isplitl [Ht]; · iexact Ht
    isplitl [Hp]; · iexact Hp
    iexact Ho
  iintro ⟨Hst, Hdn⟩
  ihave Hdn' := (Entails.of_eq ((dn0_eq m d).trans (tiles_cut m d (out m d)).symm)) $$ Hdn
  icases Hdn' with ⟨-, Ht, Hp, Ho⟩
  imodintro
  isplitl [Hst]; · iexact Hst
  isplitr [Hb Hts]
  · isplitl [Ha]; · iexact Ha
    isplitl [Ht]; · iexact Ht
    isplitl [Hp]; · iexact Hp
    iexact Ho
  isplitl [Hb] <;> iassumption

/-! ## The run -/

/-- What is read of a device's final memory. -/
def fq (d : Dev nD) (s' : Phys nD τ sig (Elt F)) : Prop :=
  s'.mem.mem (oLoc d) = out m d ∧ s'.mem.mem (aLoc d) = m (aLoc d) ∧ s'.mem.mem (tLoc d) = m (tLoc d) ∧ s'.mem.mem (pLoc d) = m (pLoc d)

/-- An array held whole is read off the memory. -/
theorem read_off {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, Hp, Ho⟩, HSI⟩
  ihave H := (read_off (m (aLoc d)) s') $$ [HSI Ha]; · isplitl [HSI] <;> iassumption
  icases H with ⟨%ha, HSI⟩
  ihave H := (read_off (m (tLoc d)) s') $$ [HSI Ht]; · isplitl [HSI] <;> iassumption
  icases H with ⟨%ht, HSI⟩
  ihave H := (read_off (m (pLoc d)) s') $$ [HSI Hp]; · isplitl [HSI] <;> iassumption
  icases H with ⟨%hp, HSI⟩
  ihave H := (read_off (out m d) s') $$ [HSI Ho]; · isplitl [HSI] <;> iassumption
  icases H with ⟨%ho, -⟩
  ipureintro; exact ⟨ho, ha, ht, hp⟩

/-- At the end: on every device the output is `out` and the arguments are as at launch, and every semaphore stands at zero. -/
def QC : PUnit × MemSt nD τ sig (Elt F) → Prop := fun r =>
  (∀ c : Dev nD, r.2.mem (oLoc c) = out m c ∧ r.2.mem (aLoc c) = m (aLoc c) ∧ r.2.mem (tLoc c) = m (tLoc c) ∧ r.2.mem (pLoc c) = m (pLoc c))
    ∧ r.2.sem = fun _ => 0

/-- Every run of the program, from a memory whose row numbers name rows of the table, ends so. -/
theorem run_main [∀ e, Nonempty (Elt F e)] (hpre : InTable m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.IdealRun

end
-- ==== Proof.InVocab.lean ====
/-
  The precondition read back, and what a word in range answers to the comparisons that the reference's lookup makes of it.
-/
module

public import proofs.«01_k».proof.Defs
public import proofs.«01_k».proof.Proof.Gen.Pre_in_vocab
public import Idealize.ShloMosaic.Lib.ReduceAll

@[expose] public section

noncomputable section

namespace Cert.Proof.InVocab

open Idealize.ShloMosaic

/-- A word that is, read signed, at least 0 and below `n`, is its own value, below `n`. -/
theorem toNat_lt {w : BitVec 32} {n : ℕ} (h0 : 0 ≤ w.toInt) (h1 : w.toInt < n) : w.toNat < n := by
  have hw := w.isLt
  rw [BitVec.toInt_eq_toNat_cond] at h0 h1
  split at h0 <;> split at h1 <;> omega

/-- A word whose value is below `n`, itself below 2^31, reads the same signed. -/
theorem toInt_of_lt {w : BitVec 32} {n : ℕ} (hn : n ≤ 2147483648) (h : w.toNat < n) : w.toInt = w.toNat := by
  rw [BitVec.toInt_eq_toNat_cond, if_pos (by omega)]

/-- Such a word isn't below zero; -/
theorem not_neg {w : BitVec 32} {n : ℕ} (hn : n ≤ 2147483648) (h : w.toNat < n) : IntOp.cmpi .slt w 0#32 = 0#1 := by
  have e : ¬IntOp.cmpi .slt w 0#32 = 1#1 := by
    rw [IntOp.cmpi_slt, toInt_of_lt hn h, show (0#32 : BitVec 32).toInt = 0 by decide]; omega
  generalize IntOp.cmpi .slt w 0#32 = b at e ⊢
  revert b; decide

/-- it is at least zero and at most `last`, when that is the word of `n - 1`. -/
theorem in_bounds {w last : BitVec 32} {n : ℕ} (hn : n ≤ 2147483648) (h : w.toNat < n) (hl : last.toInt = n - 1) :
    IntOp.andi (IntOp.cmpi .sge w 0#32) (IntOp.cmpi .sle w last) = 1#1 := by
  rw [IntOp.andi_eq_one, IntOp.cmpi_sge, IntOp.cmpi_sle, toInt_of_lt hn h, hl, show (0#32 : BitVec 32).toInt = 0 by decide]
  omega

/-- The precondition says of every row number that it names one of the table's 100000 rows. -/
theorem rows_in_table {F : FTy → Type} [FloatOps F] (a : IVec Pre_in_vocab.S1024x200 32) (t : FVec F Pre_in_vocab.S100000x128 .f32)
    (p : FVec F Pre_in_vocab.S200x128 .f32) (h : Pre_in_vocab.fn a t p = fun _ => 1#1) (j : Pre_in_vocab.S1024x200.Idx) : (a j).toNat < 100000 := by
  have hs : Subsingleton Pre_in_vocab.S_.Idx := ⟨fun x y => funext fun i => i.elim0⟩
  have h' := congrFun h (fun i => i.elim0)
  simp only [Pre_in_vocab.fn] at h'
  have e := Host.reduce_andi_all _ _ _ _ _ h' j
  obtain ⟨e0, e1⟩ := IntOp.andi_eq_one.1 (show IntOp.andi (IntOp.cmpi .sge (a j) 0#32) (IntOp.cmpi .slt (a j) 100000#32) = 1#1 from e)
  rw [IntOp.cmpi_sge, show (0#32 : BitVec 32).toInt = 0 by decide] at e0
  rw [IntOp.cmpi_slt, show (100000#32 : BitVec 32).toInt = 100000 by decide] at e1
  exact toNat_lt e0 e1

end Cert.Proof.InVocab

end
-- ==== Proof.RefValue.lean ====
/-
  What the reference computes: with every row number in range, the lookups' wrapping of negative numbers, clamping and
  filling of rows past the end change nothing, and element `(b, r, c)` of the result is column `c` of the table's row
  that batch `b` names at `r`, plus column `c` of position row `r`.
-/
module

public import proofs.«01_k».proof.Proof.InVocab
public import proofs.«01_k».proof.Proof.Gen.ReferenceIdeal.Run
public import Idealize.ShloMosaic.Lib.Pipeline.Value
public import Idealize.ShloMosaic.Lib.ValueIdx

@[expose] public section

noncomputable section

namespace Cert.Proof.RefValue

open Cert.ReferenceIdeal Cert.ReferenceIdeal.Gen Idealize.ShloMosaic
open Idealize.ShloMosaic.ValueIdx (ix1 ix2 ix3)

variable {F : FTy → Type} [FloatOps F]

/-! ## A gather of rows, read at an index -/

/-- A gather's element is the operand's at the index whose coordinates are the three parts' sums. -/
theorem gather_at {s si t : Shape} {α : Type} {w : ℕ} (d : GatherDims s si t) (x : s.Idx → α) (idx : IVec si w) (j : t.Idx) (k : s.Idx)
    (h : ∀ a, d.start j idx a + d.batchCoord j a + d.offCoord j a = (k a).val) : Host.gather d x idx j = x k :=
  congrArg x (funext fun a => Fin.ext (h a))

/-- A slice starts, on an axis that the start index names, at the word it reads, when the slice fits there; -/
theorem start_of_word {s si t : Shape} {w : ℕ} (d : GatherDims s si t) (j : t.Idx) (idx : IVec si w) (a : Fin s.rank) (ha : a ∈ d.startIndexMap)
    (k : si.Idx) (n : ℕ) (hk : d.siIdx j ⟨d.startIndexMap.idxOf a, List.idxOf_lt_length_iff.2 ha⟩ = k) (hn : (idx k).toInt = n)
    (hle : n ≤ s.size a - d.sliceSizes a) : d.start j idx a = n := by
  unfold GatherDims.start
  rw [dif_pos ha, hk, hn]
  exact Nat.min_eq_left hle

/-- and at 0 on an axis that it doesn't name. -/
theorem start_of_none {s si t : Shape} {w : ℕ} (d : GatherDims s si t) (j : t.Idx) (idx : IVec si w) (a : Fin s.rank) (ha : a ∉ d.startIndexMap) :
    d.start j idx a = 0 := by
  unfold GatherDims.start
  rw [dif_neg ha]

/-- The table's gather: element `(b, r, c)` is column `c` of the row that the word at `(b, r)` names. -/
theorem gather_tokens (t : FVec F S100000x128 .f32) (idx : IVec S1024x200x1 32) (j : S1024x200x128.Idx) (n : Fin 100000)
    (hn : (idx (ix3 (j 0) (j 1) (0 : Fin 1))).toInt = n.val) :
    Host.gather gather_S100000x128_S1024x200x1_S1024x200x128_2_0_n_n_0_2_1128 t idx j = t (ix2 n (j 2)) := by
  refine gather_at _ _ _ _ _ fun a => ?_
  match a with
  | 0 =>
    show gather_S100000x128_S1024x200x1_S1024x200x128_2_0_n_n_0_2_1128.start j idx 0 + gather_S100000x128_S1024x200x1_S1024x200x128_2_0_n_n_0_2_1128.batchCoord j 0 + gather_S100000x128_S1024x200x1_S1024x200x128_2_0_n_n_0_2_1128.offCoord j 0 = n.val
    rw [start_of_word gather_S100000x128_S1024x200x1_S1024x200x128_2_0_n_n_0_2_1128 j idx 0 (List.mem_singleton.mpr rfl) (ix3 (j 0) (j 1) (0 : Fin 1)) n.val
        (funext fun b => Fin.ext (match b with | 0 => rfl | 1 => rfl | 2 => rfl)) hn (Nat.le_sub_one_of_lt n.isLt),
      GatherDims.batchCoord_eq_zero _ _ _ List.not_mem_nil,
      GatherDims.offCoord_eq_zero _ _ _ (fun h => ((GatherDims.mem_sKept _ _).mp h).1 (List.mem_singleton.mpr rfl)),
      Nat.add_zero]
  | 1 =>
    show gather_S100000x128_S1024x200x1_S1024x200x128_2_0_n_n_0_2_1128.start j idx 1 + gather_S100000x128_S1024x200x1_S1024x200x128_2_0_n_n_0_2_1128.batchCoord j 1 + gather_S100000x128_S1024x200x1_S1024x200x128_2_0_n_n_0_2_1128.offCoord j 1 = (j 2).val
    rw [start_of_none gather_S100000x128_S1024x200x1_S1024x200x128_2_0_n_n_0_2_1128 j idx 1 (show (1 : Fin 2) ∉ ([0] : List (Fin 2)) by decide),
      GatherDims.batchCoord_eq_zero _ _ _ List.not_mem_nil, Nat.zero_add]
    rfl

/-- The position rows' gather: element `(r, c)` is column `c` of the row that the word at `r` names. -/
theorem gather_positions (p : FVec F S200x128 .f32) (idx : IVec S200x1 32) (j : S200x128.Idx) (n : Fin 200)
    (hn : (idx (ix2 (j 0) (0 : Fin 1))).toInt = n.val) :
    Host.gather gather_S200x128_S200x1_S200x128_1_0_n_n_0_1_1128 p idx j = p (ix2 n (j 1)) := by
  refine gather_at _ _ _ _ _ fun a => ?_
  match a with
  | 0 =>
    show gather_S200x128_S200x1_S200x128_1_0_n_n_0_1_1128.start j idx 0 + gather_S200x128_S200x1_S200x128_1_0_n_n_0_1_1128.batchCoord j 0 + gather_S200x128_S200x1_S200x128_1_0_n_n_0_1_1128.offCoord j 0 = n.val
    rw [start_of_word gather_S200x128_S200x1_S200x128_1_0_n_n_0_1_1128 j idx 0 (List.mem_singleton.mpr rfl) (ix2 (j 0) (0 : Fin 1)) n.val
        (funext fun b => Fin.ext (match b with | 0 => rfl | 1 => rfl)) hn (Nat.le_sub_one_of_lt n.isLt),
      GatherDims.batchCoord_eq_zero _ _ _ List.not_mem_nil,
      GatherDims.offCoord_eq_zero _ _ _ (fun h => ((GatherDims.mem_sKept _ _).mp h).1 (List.mem_singleton.mpr rfl)),
      Nat.add_zero]
  | 1 =>
    show gather_S200x128_S200x1_S200x128_1_0_n_n_0_1_1128.start j idx 1 + gather_S200x128_S200x1_S200x128_1_0_n_n_0_1_1128.batchCoord j 1 + gather_S200x128_S200x1_S200x128_1_0_n_n_0_1_1128.offCoord j 1 = (j 1).val
    rw [start_of_none gather_S200x128_S200x1_S200x128_1_0_n_n_0_1_1128 j idx 1 (show (1 : Fin 2) ∉ ([0] : List (Fin 2)) by decide),
      GatherDims.batchCoord_eq_zero _ _ _ List.not_mem_nil, Nat.zero_add]
    rfl

/-! ## The reference's term, piece by piece -/

/-- The row numbers the table's lookup uses: the given ones, a negative one counted from the end. -/
def tokIdx (a : IVec S1024x200 32) : IVec S1024x200x1 32 :=
  broadcastInDim S1024x200x1 ![0, 1] bcast_S1024x200_S1024x200x1_0_1
    (select (cmpi .slt a (broadcastInDim S1024x200 ![] bcast_S_S1024x200 (constantI S_ 32 0#32)))
      (addi a (broadcastInDim S1024x200 ![] bcast_S_S1024x200 (constantI S_ 32 100000#32))) a)

/-- Which of them name a row. -/
def tokIn (a : IVec S1024x200 32) : IVec S1024x200 1 :=
  Host.reduce IntOp.andi
    (andi (cmpi .sge (tokIdx a) (broadcastInDim S1024x200x1 ![] bcast_S_S1024x200x1 (constantI S_ 32 0#32)))
      (cmpi .sle (tokIdx a) (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- The table's lookup: the gathered rows where the number names a row, the fill elsewhere. -/
def tokens (a : IVec S1024x200 32) (t : FVec F S100000x128 .f32) : FVec F S1024x200x128 .f32 :=
  select (broadcastInDim S1024x200x128 ![0, 1] bcast_S1024x200_S1024x200x128_0_1 (tokIn a))
    (Host.gather gather_S100000x128_S1024x200x1_S1024x200x128_2_0_n_n_0_2_1128 t (tokIdx a))
    (broadcastInDim S1024x200x128 ![] bcast_S_S1024x200x128 (constant S_ .f32 0x7FC00000#32))

/-- The numbers of the position rows, 0 to 199, as the lookup uses them. -/
def posIdx : IVec S200x1 32 :=
  broadcastInDim S200x1 ![0] bcast_S200_S200x1_0
    (select (cmpi .slt (iotaInDim S200 32 0) (broadcastInDim S200 ![] bcast_S_S200 (constantI S_ 32 0#32)))
      (addi (iotaInDim S200 32 0) (broadcastInDim S200 ![] bcast_S_S200 (constantI S_ 32 200#32))) (iotaInDim S200 32 0))

/-- Which of them name a row. -/
def posIn : IVec S200 1 :=
  Host.reduce IntOp.andi
    (andi (cmpi .sge posIdx (broadcastInDim S200x1 ![] bcast_S_S200x1 (constantI S_ 32 0#32)))
      (cmpi .sle posIdx (broadcastInDim S200x1 ![0, 1] bcast_S1x1_S200x1_0_1 (broadcastInDim S1x1 ![1] bcast_S1_S1x1_1 (constantI S1 32 199#32)))))
    (constantI S_ 1 1#1) reducesTo_S200x1_S200_d1 h_S_

/-- The position rows' lookup. -/
def positions (p : FVec F S200x128 .f32) : FVec F S200x128 .f32 :=
  select (broadcastInDim S200x128 ![0] bcast_S200_S200x128_0 posIn)
    (Host.gather gather_S200x128_S200x1_S200x128_1_0_n_n_0_1_1128 p posIdx)
    (broadcastInDim S200x128 ![] bcast_S_S200x128 (constant S_ .f32 0x7FC00000#32))

/-- The reference's result: the table's lookup plus the position rows' lookup, the same in every batch. -/
def result (a : IVec S1024x200 32) (t : FVec F S100000x128 .f32) (p : FVec F S200x128 .f32) : FVec F S1024x200x128 .f32 :=
  addf (tokens a t) (broadcastInDim S1024x200x128 ![0, 1, 2] bcast_S1x200x128_S1024x200x128_0_1_2
    (broadcastInDim S1x200x128 ![1, 2] bcast_S200x128_S1x200x128_1_2 (positions p)))

/-! ## The pieces read at an index -/

variable (a : IVec S1024x200 32) (ha : ∀ j, (a j).toNat < 100000)

include ha in
/-- No row number is negative, so the lookup uses them as given. -/
theorem tokIdx_at (k : S1024x200x1.Idx) : tokIdx a k = a (ix2 (k 0) (k 1)) := by
  have e : select (cmpi .slt a (broadcastInDim S1024x200 ![] bcast_S_S1024x200 (constantI S_ 32 0#32)))
      (addi a (broadcastInDim S1024x200 ![] bcast_S_S1024x200 (constantI S_ 32 100000#32))) a = a := by
    funext j
    have h0 : cmpi .slt a (broadcastInDim S1024x200 ![] bcast_S_S1024x200 (constantI S_ 32 0#32)) j = 0#1 := InVocab.not_neg (by decide) (ha j)
    unfold select
    rw [h0]
    rfl
  unfold tokIdx
  rw [e]
  refine broadcastInDim_apply _ _ _ _ _ fun b => ?_
  match b with
  | 0 => rfl
  | 1 => rfl

include ha in
/-- All of them name a row. -/
theorem tokIn_at (k : S1024x200.Idx) : tokIn a k = 1#1 := by
  refine Host.reduce_andi_one _ _ _ _ k rfl fun i => ?_
  show IntOp.andi (IntOp.cmpi .sge (tokIdx a i) 0#32) (IntOp.cmpi .sle (tokIdx a i) 99999#32) = 1#1
  rw [tokIdx_at a ha]
  exact InVocab.in_bounds (by decide) (ha _) (by decide)

include ha in
/-- So the lookup gives the rows that the numbers name. -/
theorem tokens_at (t : FVec F S100000x128 .f32) (j : S1024x200x128.Idx) :
    tokens a t j = t (ix2 ⟨(a (ix2 (j 0) (j 1))).toNat, ha _⟩ (j 2)) := by
  have h1 : broadcastInDim S1024x200x128 ![0, 1] bcast_S1024x200_S1024x200x128_0_1 (tokIn a) j = 1#1 := tokIn_at a ha _
  unfold tokens select
  rw [h1]
  refine (show _ = _ from rfl).trans (gather_tokens t (tokIdx a) j ⟨(a (ix2 (j 0) (j 1))).toNat, ha _⟩ ?_)
  rw [tokIdx_at a ha]
  exact InVocab.toInt_of_lt (n := 100000) (by decide) (ha _)

/-- Position number `r` is the word of `r`. -/
theorem iota_lt (j : S200.Idx) : (iotaInDim S200 32 0 j).toNat = (j 0).val := by
  have h : (j 0).val < 200 := (j 0).isLt
  show (BitVec.ofNat 32 (j 0).val).toNat = _
  rw [BitVec.toNat_ofNat]
  omega

theorem posIdx_at (k : S200x1.Idx) : posIdx k = iotaInDim S200 32 0 (ix1 (k 0)) := by
  have e : select (cmpi .slt (iotaInDim S200 32 0) (broadcastInDim S200 ![] bcast_S_S200 (constantI S_ 32 0#32)))
      (addi (iotaInDim S200 32 0) (broadcastInDim S200 ![] bcast_S_S200 (constantI S_ 32 200#32))) (iotaInDim S200 32 0) = iotaInDim S200 32 0 := by
    funext j
    have hj : (iotaInDim S200 32 0 j).toNat < 200 := (iota_lt j).trans_lt (j 0).isLt
    have h0 : cmpi .slt (iotaInDim S200 32 0) (broadcastInDim S200 ![] bcast_S_S200 (constantI S_ 32 0#32)) j = 0#1 := InVocab.not_neg (by decide) hj
    unfold select
    rw [h0]
    rfl
  unfold posIdx
  rw [e]
  refine broadcastInDim_apply _ _ _ _ _ fun b => ?_
  match b with
  | 0 => rfl

theorem posIn_at (k : S200.Idx) : posIn k = 1#1 := by
  refine Host.reduce_andi_one _ _ _ _ k rfl fun i => ?_
  show IntOp.andi (IntOp.cmpi .sge (posIdx i) 0#32) (IntOp.cmpi .sle (posIdx i) 199#32) = 1#1
  rw [posIdx_at]
  exact InVocab.in_bounds (n := 200) (by decide) ((iota_lt _).trans_lt (i 0).isLt) (by decide)

/-- The position rows' lookup gives the position rows. -/
theorem positions_at (p : FVec F S200x128 .f32) (j : S200x128.Idx) : positions p j = p (ix2 (j 0) (j 1)) := by
  have h1 : broadcastInDim S200x128 ![0] bcast_S200_S200x128_0 posIn j = 1#1 := posIn_at _
  unfold positions select
  rw [h1]
  refine (show _ = _ from rfl).trans (gather_positions p posIdx j (j 0) ?_)
  rw [posIdx_at]
  exact (InVocab.toInt_of_lt (n := 200) (by decide) ((iota_lt _).trans_lt (j 0).isLt)).trans (congrArg Int.ofNat (iota_lt _))

include ha in
/-- Element `(b, r, c)` of the reference's result. -/
theorem result_at (t : FVec F S100000x128 .f32) (p : FVec F S200x128 .f32) (j : S1024x200x128.Idx) :
    result a t p j = FloatOps.addf (t (ix2 ⟨(a (ix2 (j 0) (j 1))).toNat, ha _⟩ (j 2))) (p (ix2 (j 1) (j 2))) := by
  have hp : broadcastInDim S1024x200x128 ![0, 1, 2] bcast_S1x200x128_S1024x200x128_0_1_2
      (broadcastInDim S1x200x128 ![1, 2] bcast_S200x128_S1x200x128_1_2 (positions p)) j = p (ix2 (j 1) (j 2)) := by
    refine (broadcastInDim_apply _ _ _ _ (ix3 (0 : Fin 1) (j 1) (j 2)) fun b => ?_).trans ?_
    · match b with
      | 0 => rfl
      | 1 => rfl
      | 2 => rfl
    refine (broadcastInDim_apply _ _ _ _ (ix2 (j 1) (j 2)) fun b => ?_).trans (positions_at p _)
    match b with
    | 0 => rfl
    | 1 => rfl
  show FloatOps.addf (tokens a t j) _ = _
  rw [hp, tokens_at a ha]

end Cert.Proof.RefValue

end
-- ==== Proof.Equation.lean ====
/-
  The equation: what the kernel leaves in the output is what the reference leaves in its result.
-/
module

public import proofs.«01_k».proof.Proof.IdealMain
public import proofs.«01_k».proof.Proof.RefValue

@[expose] public section

noncomputable section

namespace Cert.Proof.Equation

open Cert.KernelIdeal Cert.KernelIdeal.Gen Idealize.ShloMosaic
open Idealize.ShloMosaic.ValueIdx (ix1 ix2 ix3)
open Cert.Proof.IdealRun

variable {F : FTy → Type} [FloatOps F] (m : (ℓ : Loc nD τ sig) → Buf (Elt F) ℓ)

/-- Word `r % 100` of list `r / 100` of batch `b` is the row number the caller gives at `(b, r)`. -/
theorem lists_at (d : Dev nD) (b : Fin 1024) (r : Fin 200) (h0 : r.val / 100 < 2) (h1 : r.val % 100 < 100) :
    lists m d (ix3 b (⟨r.val / 100, h0⟩ : Fin 2) (⟨r.val % 100, h1⟩ : Fin 100)) = (show S1024x200.Idx → BitVec 32 from m (aLoc d)) (ix2 b r) := by
  refine congrArg (show S1024x200.Idx → BitVec 32 from m (aLoc d)) (Shape.reshapeEquiv_eq_of_rowMajor _ ?_)
  refine (Shape.rowMajor_val_two _).trans (Eq.trans ?_ (Shape.rowMajor_val_three _).symm)
  show b.val * 200 + r.val = (b.val * 2 + r.val / 100) * 100 + r.val % 100
  omega

/-- The output's element `(b, r, c)`: column `c` of the row that the caller names at `(b, r)`, plus column `c` of position row `r`. -/
theorem out_at (h : InTable m) (d : Dev nD) (i : S1024x200x128.Idx) :
    (show S1024x200x128.Idx → Elt F .f32 from out m d) i
      = FloatOps.addf ((show S100000x128.Idx → Elt F .f32 from m (tLoc d))
          (ix2 ⟨((show S1024x200.Idx → BitVec 32 from m (aLoc d)) (ix2 (i 0) (i 1))).toNat, h d _⟩ (i 2)))
        ((show S200x128.Idx → Elt F .f32 from m (pLoc d)) (ix2 (i 1) (i 2))) := by
  have hr : (i 1).val < 200 := (i 1).isLt
  have e : lists m d (ix3 (i 0) (⟨(i 1).val / 100, by omega⟩ : Fin 2) (⟨(i 1).val % 100, Nat.mod_lt _ (by decide)⟩ : Fin 100))
      = (show S1024x200.Idx → BitVec 32 from m (aLoc d)) (ix2 (i 0) (i 1)) := lists_at m d (i 0) (i 1) _ _
  have e' : tokRow (lists m d (ix3 (i 0) (⟨(i 1).val / 100, by omega⟩ : Fin 2) (⟨(i 1).val % 100, Nat.mod_lt _ (by decide)⟩ : Fin 100)))
      = ⟨((show S1024x200.Idx → BitVec 32 from m (aLoc d)) (ix2 (i 0) (i 1))).toNat, h d _⟩ :=
    Fin.ext ((congrArg (fun w : BitVec 32 => w.toNat % 100000) e).trans (Nat.mod_eq_of_lt (h d _)))
  exact congrArg (fun n : Fin 100000 => FloatOps.addf ((show S100000x128.Idx → Elt F .f32 from m (tLoc d)) (ix2 n (i 2)))
    ((show S200x128.Idx → Elt F .f32 from m (pLoc d)) (ix2 (i 1) (i 2)))) e'

/-- The kernel's output is the reference's result of the same arguments. -/
theorem out_eq_result (h : InTable m) (d : Dev nD) :
    (show S1024x200x128.Idx → Elt F .f32 from out m d) = RefValue.result (F := F) (m (aLoc d)) (m (tLoc d)) (m (pLoc d)) :=
  funext fun i => (out_at m h d i).trans (RefValue.result_at (F := F) (m (aLoc d)) (fun j => h d j) (m (tLoc d)) (m (pLoc d)) i).symm

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_vocab
public import proofs.«01_k».proof.Proof.BitsMain
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The precondition says that every row number names a row of the table: for the kernel, -/
theorem bits_in_table (m : (ℓ : Loc Cert.Kernel.nD Cert.Kernel.τ Cert.Kernel.sig) → Buf (Elt Bits) ℓ) (h : Cert.Pre_Kernel m) :
    BitsRun.InTable (F := Bits) m := fun d j => InVocab.rows_in_table (F := Bits) _ _ _ (h d) j

/-- and for its ideal form. -/
theorem ideal_in_table (m : (ℓ : Loc Cert.KernelIdeal.nD Cert.KernelIdeal.τ Cert.KernelIdeal.sig) → Buf (Elt Ideal) ℓ) (h : Cert.Pre_KernelIdeal m) :
    IdealRun.InTable (F := Ideal) m := fun d j => InVocab.rows_in_table (F := Ideal) _ _ _ (h d) j

/-- The kernel runs to an end, leaves its arguments as they were and every semaphore at zero. -/
theorem frame_kernel : Cert.quiescent_Kernel := fun m ρ h =>
  (θ_run Cert.Kernel.defs _ _).mono (fun _ e => ⟨fun c => (e.1 c).2, e.2⟩) (BitsRun.run_main (F := Bits) m ρ (bits_in_table m h))

/-- So does its ideal form. -/
theorem frame_ideal : Cert.quiescent_KernelIdeal := fun m ρ h =>
  (θ_run Cert.KernelIdeal.defs _ _).mono (fun _ e => ⟨fun c => (e.1 c).2, e.2⟩) (IdealRun.run_main (F := Ideal) m ρ (ideal_in_table m h))

/-- So does the reference, from any arguments; it declares no semaphore. -/
theorem frame_reference : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

/-- In particular from arguments in range. -/
theorem frame_reference_in_vocab : Cert.quiescent_ReferenceIdeal_pre_in_vocab := fun m ρ _ => frame_reference m ρ trivial

/-- The kernel and the reference end, over the extended reals, with equal results: both with `RefValue.result` of the arguments. -/
theorem same_result : Cert.algebraic_KernelIdeal_ReferenceIdeal := fun m ρ m' ρ' h hag =>
  ⟨fun c => IdealRun.out (F := Ideal) m c,
    (θ_run Cert.KernelIdeal.defs _ _).mono (fun _ e => e.1) (IdealRun.run_main (F := Ideal) m ρ (ideal_in_table m h)),
    (θ_run Cert.ReferenceIdeal.defs _ _).mono (fun _ e c => ⟨(e c).1.trans (by
        obtain ⟨ha, ht, hp⟩ := hag c
        rw [ha, ht, hp]
        exact (Equation.out_eq_result (F := Ideal) m (ideal_in_table m h) c).symm), (e c).2⟩)
      (Cert.ReferenceIdeal.Value.run (F := Ideal) m' ρ')⟩

/-- All the claims together. -/
theorem claim : Cert.Claim :=
  ⟨Cert.Kernel.Gen.facts, Cert.KernelIdeal.Gen.facts, Cert.ReferenceIdeal.Gen.facts, Cert.Pre_in_vocab.Gen.facts,
    frame_kernel, frame_ideal, frame_reference, frame_reference_in_vocab, trivial, same_result⟩

end Cert.Proof

end
